-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v71) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4096x128 : Shape := ⟨2, ![4096, 128]⟩
abbrev S4096 : Shape := ⟨1, ![4096]⟩
abbrev S1x4096 : Shape := ⟨2, ![1, 4096]⟩
abbrev S4096x1 : Shape := ⟨2, ![4096, 1]⟩
abbrev S1x128 : Shape := ⟨2, ![1, 128]⟩
abbrev S8x128 : Shape := ⟨2, ![8, 128]⟩
abbrev S128x128 : Shape := ⟨2, ![128, 128]⟩
abbrev S128x4096 : Shape := ⟨2, ![128, 4096]⟩
abbrev S128x1 : Shape := ⟨2, ![128, 1]⟩
abbrev S128 : Shape := ⟨1, ![128]⟩
abbrev S1x128x4096 : Shape := ⟨3, ![1, 128, 4096]⟩
abbrev S1 : Shape := ⟨1, ![1]⟩
abbrev S1x1x1 : Shape := ⟨3, ![1, 1, 1]⟩
abbrev S1x128x1 : Shape := ⟨3, ![1, 128, 1]⟩
abbrev S1x1x128 : Shape := ⟨3, ![1, 1, 128]⟩
abbrev S1x1 : Shape := ⟨2, ![1, 1]⟩
abbrev S_ : Shape := ⟨0, ![]⟩

abbrev nBuf : Space → Nat
  | .hbm => 7
  | .vmem => 6
  | .smem => 0
  | _ => 0

abbrev bufTy : (tb : Table) → Fin (tcTables nBuf tb) → BufTy
  | .hbm, ⟨0, _⟩ => ⟨S4096x128, .f32⟩
  | .hbm, ⟨1, _⟩ => ⟨S4096, .i32⟩
  | .hbm, ⟨2, _⟩ => ⟨S1x4096, .i32⟩
  | .hbm, ⟨3, _⟩ => ⟨S4096x1, .i32⟩
  | .hbm, ⟨4, _⟩ => ⟨S1x128, .f32⟩
  | .hbm, ⟨5, _⟩ => ⟨S1x1, .f32⟩
  | .hbm, ⟨6, _⟩ => ⟨S_, .f32⟩
  | .local _ .vmem, ⟨0, _⟩ => ⟨S4096x128, .f32⟩
  | .local _ .vmem, ⟨1, _⟩ => ⟨S1x4096, .i32⟩
  | .local _ .vmem, ⟨2, _⟩ => ⟨S4096x1, .i32⟩
  | .local _ .vmem, ⟨3, _⟩ => ⟨S1x128, .f32⟩
  | .local _ .vmem, ⟨4, _⟩ => ⟨S4096x128, .f32⟩
  | .local _ .vmem, ⟨5, _⟩ => ⟨S8x128, .f32⟩
  | _, _ => ⟨S4096x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_scratch0 : Ref sig .tc := ⟨.vmem, 4, rfl⟩
abbrev cc0_scratch1 : Ref sig .tc := ⟨.vmem, 5, rfl⟩
abbrev cc0_sem0_0 : DmaSem sig := 0
abbrev cc0_sem1_0 : DmaSem sig := 1
abbrev cc0_sem2_0 : DmaSem sig := 2
abbrev cc0_sem3_0 : DmaSem sig := 3

abbrev nD : Nat := 1
abbrev τ : Topo := Topo.v7x

variable {F : FTy → Type} [FloatOps F]

abbrev grid0 : Pipeline.Grid := ⟨1, ![32], ![false]⟩

def k0_off1 (i : grid0.Coords) : Fin 2 → Nat :=
  let arg0 : BitVec 32 := BitVec.ofNat 32 (i 0).val
  let c128_i32 : BitVec 32 := 128#32
  let v3 : BitVec 32 := Scalar.muli arg0 c128_i32
  let v4 : Index := Scalar.indexCast v3
  let c0 : Index := 0#32
  ![v4.toNat, 0]
def k0_off2 (i : grid0.Coords) : Fin 2 → Nat :=
  let arg0 : BitVec 32 := BitVec.ofNat 32 (i 0).val
  let c128_i32_3 : BitVec 32 := 128#32
  let v8 : BitVec 32 := Scalar.muli arg0 c128_i32_3
  let v9 : Index := Scalar.indexCast v8
  let c0_4 : Index := 0#32
  ![v9.toNat, 0]
def k0_cond2 (i : grid0.Coords) : BitVec 1 :=
  let arg0 : BitVec 32 := BitVec.ofNat 32 (i 0).val
  let c31_i32_1143 : BitVec 32 := 31#32
  let v4303 : BitVec 1 := Scalar.cmpi .eq arg0 c31_i32_1143
  let v4304 : BitVec 32 := Scalar.extui v4303
  let c0_i32_1144 : BitVec 32 := 0#32
  let v4305 : BitVec 1 := Scalar.cmpi .ne v4304 c0_i32_1144
  v4305

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S4096x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S1x4096 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S4096x1 .i32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]
-- ==== ReferenceIdeal.lean ====
abbrev S4096x128 : Shape := ⟨2, ![4096, 128]⟩
abbrev S4096 : Shape := ⟨1, ![4096]⟩
abbrev S_ : Shape := ⟨0, ![]⟩
abbrev S4096x1 : Shape := ⟨2, ![4096, 1]⟩
abbrev S128x4096 : Shape := ⟨2, ![128, 4096]⟩
abbrev S4096x4096 : Shape := ⟨2, ![4096, 4096]⟩
abbrev S1x4096 : Shape := ⟨2, ![1, 4096]⟩
abbrev S16777216 : Shape := ⟨1, ![16777216]⟩
abbrev S100 : Shape := ⟨1, ![100]⟩
abbrev S16777216x1 : Shape := ⟨2, ![16777216, 1]⟩

abbrev nBuf : Space → Nat
  | .hbm => 107
  | .vmem => 0
  | .smem => 0
  | _ => 0

abbrev bufTy : (tb : Table) → Fin (tcTables nBuf tb) → BufTy
  | .hbm, ⟨0, _⟩ => ⟨S4096x128, .f32⟩
  | .hbm, ⟨1, _⟩ => ⟨S4096, .i32⟩
  | .hbm, ⟨2, _⟩ => ⟨S4096x128, .f32⟩
  | .hbm, ⟨3, _⟩ => ⟨S_, .f32⟩
  | .hbm, ⟨4, _⟩ => ⟨S4096, .f32⟩
  | .hbm, ⟨5, _⟩ => ⟨S4096x1, .f32⟩
  | .hbm, ⟨6, _⟩ => ⟨S4096x1, .f32⟩
  | .hbm, ⟨7, _⟩ => ⟨S_, .f32⟩
  | .hbm, ⟨8, _⟩ => ⟨S4096x1, .f32⟩
  | .hbm, ⟨9, _⟩ => ⟨S4096x1, .f32⟩
  | .hbm, ⟨10, _⟩ => ⟨S4096x128, .f32⟩
  | .hbm, ⟨11, _⟩ => ⟨S4096x128, .f32⟩
  | .hbm, ⟨12, _⟩ => ⟨S128x4096, .f32⟩
  | .hbm, ⟨13, _⟩ => ⟨S4096x4096, .f32⟩
  | .hbm, ⟨14, _⟩ => ⟨S4096x1, .i32⟩
  | .hbm, ⟨15, _⟩ => ⟨S1x4096, .i32⟩
  | .hbm, ⟨16, _⟩ => ⟨S4096x4096, .i32⟩
  | .hbm, ⟨17, _⟩ => ⟨S4096x4096, .i32⟩
  | .hbm, ⟨18, _⟩ => ⟨S4096x4096, .i1⟩
  | .hbm, ⟨19, _⟩ => ⟨S4096x4096, .f32⟩
  | .hbm, ⟨20, _⟩ => ⟨S4096x4096, .i32⟩
  | .hbm, ⟨21, _⟩ => ⟨S4096x4096, .i32⟩
  | .hbm, ⟨22, _⟩ => ⟨S_, .i32⟩
  | .hbm, ⟨23, _⟩ => ⟨S4096x4096, .i32⟩
  | .hbm, ⟨24, _⟩ => ⟨S4096x4096, .i32⟩
  | .hbm, ⟨25, _⟩ => ⟨S4096x4096, .i1⟩
  | .hbm, ⟨26, _⟩ => ⟨S4096x4096, .f32⟩
  | .hbm, ⟨27, _⟩ => ⟨S4096x4096, .f32⟩
  | .hbm, ⟨28, _⟩ => ⟨S4096x4096, .i1⟩
  | .hbm, ⟨29, _⟩ => ⟨S4096x4096, .f32⟩
  | .hbm, ⟨30, _⟩ => ⟨S16777216, .f32⟩
  | .hbm, ⟨31, _⟩ => ⟨S16777216, .f32⟩
  | .hbm, ⟨32, _⟩ => ⟨S16777216, .f32⟩
  | .hbm, ⟨33, _⟩ => ⟨S_, .f32⟩
  | .hbm, ⟨34, _⟩ => ⟨S16777216, .f32⟩
  | .hbm, ⟨35, _⟩ => ⟨S16777216, .f32⟩
  | .hbm, ⟨36, _⟩ => ⟨S_, .f32⟩
  | .hbm, ⟨37, _⟩ => ⟨S16777216, .f32⟩
  | .hbm, ⟨38, _⟩ => ⟨S16777216, .f32⟩
  | .hbm, ⟨39, _⟩ => ⟨S_, .f32⟩
  | .hbm, ⟨40, _⟩ => ⟨S16777216, .f32⟩
  | .hbm, ⟨41, _⟩ => ⟨S16777216, .f32⟩
  | .hbm, ⟨42, _⟩ => ⟨S16777216, .f32⟩
  | .hbm, ⟨43, _⟩ => ⟨S16777216, .i32⟩
  | .hbm, ⟨44, _⟩ => ⟨S_, .i32⟩
  | .hbm, ⟨45, _⟩ => ⟨S_, .i32⟩
  | .hbm, ⟨46, _⟩ => ⟨S_, .i32⟩
  | .hbm, ⟨47, _⟩ => ⟨S16777216, .i32⟩
  | .hbm, ⟨48, _⟩ => ⟨S16777216, .i32⟩
  | .hbm, ⟨49, _⟩ => ⟨S_, .i32⟩
  | .hbm, ⟨50, _⟩ => ⟨S16777216, .i32⟩
  | .hbm, ⟨51, _⟩ => ⟨S16777216, .i32⟩
  | .hbm, ⟨52, _⟩ => ⟨S_, .f32⟩
  | .hbm, ⟨53, _⟩ => ⟨S100, .f32⟩
  | .hbm, ⟨54, _⟩ => ⟨S_, .i32⟩
  | .hbm, ⟨55, _⟩ => ⟨S16777216, .i32⟩
  | .hbm, ⟨56, _⟩ => ⟨S16777216, .i1⟩
  | .hbm, ⟨57, _⟩ => ⟨S_, .i32⟩
  | .hbm, ⟨58, _⟩ => ⟨S16777216, .i32⟩
  | .hbm, ⟨59, _⟩ => ⟨S16777216, .i32⟩
  | .hbm, ⟨60, _⟩ => ⟨S16777216, .i32⟩
  | .hbm, ⟨61, _⟩ => ⟨S16777216x1, .i32⟩
  | .hbm, ⟨62, _⟩ => ⟨S100, .f32⟩
  | .hbm, ⟨63, _⟩ => ⟨S_, .f32⟩
  | .hbm, ⟨64, _⟩ => ⟨S100, .f32⟩
  | .hbm, ⟨65, _⟩ => ⟨S_, .i32⟩
  | .hbm, ⟨66, _⟩ => ⟨S16777216, .i32⟩
  | .hbm, ⟨67, _⟩ => ⟨S16777216, .i1⟩
  | .hbm, ⟨68, _⟩ => ⟨S_, .i32⟩
  | .hbm, ⟨69, _⟩ => ⟨S16777216, .i32⟩
  | .hbm, ⟨70, _⟩ => ⟨S16777216, .i32⟩
  | .hbm, ⟨71, _⟩ => ⟨S16777216, .i32⟩
  | .hbm, ⟨72, _⟩ => ⟨S16777216x1, .i32⟩
  | .hbm, ⟨73, _⟩ => ⟨S100, .f32⟩
  | .hbm, ⟨74, _⟩ => ⟨S_, .f32⟩
  | .hbm, ⟨75, _⟩ => ⟨S_, .f32⟩
  | .hbm, ⟨76, _⟩ => ⟨S_, .f32⟩
  | .hbm, ⟨77, _⟩ => ⟨S_, .f32⟩
  | .hbm, ⟨78, _⟩ => ⟨S100, .f32⟩
  | .hbm, ⟨79, _⟩ => ⟨S100, .f32⟩
  | .hbm, ⟨80, _⟩ => ⟨S_, .f32⟩
  | .hbm, ⟨81, _⟩ => ⟨S_, .f32⟩
  | .hbm, ⟨82, _⟩ => ⟨S_, .f32⟩
  | .hbm, ⟨83, _⟩ => ⟨S_, .f32⟩
  | .hbm, ⟨84, _⟩ => ⟨S100, .f32⟩
  | .hbm, ⟨85, _⟩ => ⟨S100, .f32⟩
  | .hbm, ⟨86, _⟩ => ⟨S100, .f32⟩
  | .hbm, ⟨87, _⟩ => ⟨S_, .f32⟩
  | .hbm, ⟨88, _⟩ => ⟨S_, .f32⟩
  | .hbm, ⟨89, _⟩ => ⟨S16777216, .f32⟩
  | .hbm, ⟨90, _⟩ => ⟨S_, .f32⟩
  | .hbm, ⟨91, _⟩ => ⟨S_, .f32⟩
  | .hbm, ⟨92, _⟩ => ⟨S_, .f32⟩
  | .hbm, ⟨93, _⟩ => ⟨S_, .f32⟩
  | .hbm, ⟨94, _⟩ => ⟨S_, .f32⟩
  | .hbm, ⟨95, _⟩ => ⟨S16777216, .f32⟩
  | .hbm, ⟨96, _⟩ => ⟨S_, .f32⟩
  | .hbm, ⟨97, _⟩ => ⟨S_, .f32⟩
  | .hbm, ⟨98, _⟩ => ⟨S_, .f32⟩
  | .hbm, ⟨99, _⟩ => ⟨S_, .f32⟩
  | .hbm, ⟨100, _⟩ => ⟨S_, .f32⟩
  | .hbm, ⟨101, _⟩ => ⟨S_, .f32⟩
  | .hbm, ⟨102, _⟩ => ⟨S_, .f32⟩
  | .hbm, ⟨103, _⟩ => ⟨S_, .f32⟩
  | .hbm, ⟨104, _⟩ => ⟨S_, .f32⟩
  | .hbm, ⟨105, _⟩ => ⟨S_, .f32⟩
  | .hbm, ⟨106, _⟩ => ⟨S_, .f32⟩
  | _, _ => ⟨S4096x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_v0 : Ref sig .tc := ⟨.hbm, 2, rfl⟩
abbrev main_call0_cst : Ref sig .tc := ⟨.hbm, 3, rfl⟩
abbrev main_call0_v1 : Ref sig .tc := ⟨.hbm, 4, rfl⟩
abbrev main_call0_v2 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_c : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_cst_0 : Ref sig .tc := ⟨.hbm, 33, rfl⟩
abbrev main_v25 : Ref sig .tc := ⟨.hbm, 34, rfl⟩
abbrev main_v26 : Ref sig .tc := ⟨.hbm, 35, rfl⟩
abbrev main_cst_1 : Ref sig .tc := ⟨.hbm, 36, rfl⟩
abbrev main_v27 : Ref sig .tc := ⟨.hbm, 37, rfl⟩
abbrev main_v28 : Ref sig .tc := ⟨.hbm, 38, rfl⟩
abbrev main_cst_2 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_c_3 : Ref sig .tc := ⟨.hbm, 44, rfl⟩
abbrev main_c_4 : Ref sig .tc := ⟨.hbm, 45, rfl⟩
abbrev main_call1_v0 : Ref sig .tc := ⟨.hbm, 46, rfl⟩
abbrev main_call1_v1 : Ref sig .tc := ⟨.hbm, 47, rfl⟩
abbrev main_call1_v2 : Ref sig .tc := ⟨.hbm, 48, rfl⟩
abbrev main_call1_v3 : Ref sig .tc := ⟨.hbm, 49, rfl⟩
abbrev main_call1_v4 : Ref sig .tc := ⟨.hbm, 50, rfl⟩
abbrev main_v33 : Ref sig .tc := ⟨.hbm, 51, rfl⟩
abbrev main_cst_5 : Ref sig .tc := ⟨.hbm, 52, rfl⟩
abbrev main_v34 : Ref sig .tc := ⟨.hbm, 53, rfl⟩
abbrev main_c_6 : Ref sig .tc := ⟨.hbm, 54, rfl⟩
abbrev main_v35 : Ref sig .tc := ⟨.hbm, 55, rfl⟩
abbrev main_v36 : Ref sig .tc := ⟨.hbm, 56, rfl⟩
abbrev main_c_7 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_cst_8 : Ref sig .tc := ⟨.hbm, 63, rfl⟩
abbrev main_v42 : Ref sig .tc := ⟨.hbm, 64, rfl⟩
abbrev main_c_9 : Ref sig .tc := ⟨.hbm, 65, rfl⟩
abbrev main_v43 : Ref sig .tc := ⟨.hbm, 66, rfl⟩
abbrev main_v44 : Ref sig .tc := ⟨.hbm, 67, rfl⟩
abbrev main_c_10 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_cst_11 : Ref sig .tc := ⟨.hbm, 74, rfl⟩
abbrev main_v50 : Ref sig .tc := ⟨.hbm, 75, rfl⟩
abbrev main_cst_12 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_cst_13 : Ref sig .tc := ⟨.hbm, 80, rfl⟩
abbrev main_v54 : Ref sig .tc := ⟨.hbm, 81, rfl⟩
abbrev main_cst_14 : Ref sig .tc := ⟨.hbm, 82, rfl⟩
abbrev main_v55 : Ref sig .tc := ⟨.hbm, 83, rfl⟩
abbrev main_v56 : Ref sig .tc := ⟨.hbm, 84, rfl⟩
abbrev main_v57 : Ref sig .tc := ⟨.hbm, 85, rfl⟩
abbrev main_v58 : Ref sig .tc := ⟨.hbm, 86, rfl⟩
abbrev main_cst_15 : Ref sig .tc := ⟨.hbm, 87, rfl⟩
abbrev main_v59 : Ref sig .tc := ⟨.hbm, 88, rfl⟩
abbrev main_v60 : Ref sig .tc := ⟨.hbm, 89, rfl⟩
abbrev main_cst_16 : Ref sig .tc := ⟨.hbm, 90, rfl⟩
abbrev main_v61 : Ref sig .tc := ⟨.hbm, 91, rfl⟩
abbrev main_cst_17 : Ref sig .tc := ⟨.hbm, 92, rfl⟩
abbrev main_v62 : Ref sig .tc := ⟨.hbm, 93, rfl⟩
abbrev main_v63 : Ref sig .tc := ⟨.hbm, 94, rfl⟩
abbrev main_v64 : Ref sig .tc := ⟨.hbm, 95, rfl⟩
abbrev main_cst_18 : Ref sig .tc := ⟨.hbm, 96, rfl⟩
abbrev main_v65 : Ref sig .tc := ⟨.hbm, 97, rfl⟩
abbrev main_cst_19 : Ref sig .tc := ⟨.hbm, 98, rfl⟩
abbrev main_v66 : Ref sig .tc := ⟨.hbm, 99, rfl⟩
abbrev main_v67 : Ref sig .tc := ⟨.hbm, 100, rfl⟩
abbrev main_v68 : Ref sig .tc := ⟨.hbm, 101, rfl⟩
abbrev main_cst_20 : Ref sig .tc := ⟨.hbm, 102, rfl⟩
abbrev main_v69 : Ref sig .tc := ⟨.hbm, 103, rfl⟩
abbrev main_call2_cst : Ref sig .tc := ⟨.hbm, 104, rfl⟩
abbrev main_v70 : Ref sig .tc := ⟨.hbm, 105, rfl⟩
abbrev main_v71 : Ref sig .tc := ⟨.hbm, 106, rfl⟩

abbrev nD : Nat := 1
abbrev τ : Topo := Topo.v7x

variable {F : FTy → Type} [FloatOps F]
-- ==== Proof.Rows.lean ====
module

public import proofs.«01_k».proof.Proof.Gen.KernelIdeal.Frame
public import Idealize.ShloMosaic.Lib.Pipeline.ValueKit
public import Idealize.ShloMosaic.Lib.Pipeline.ReadBack

@[expose] public section

set_option maxRecDepth 16384

noncomputable section

namespace Cert.KernelIdeal.Hist

open Idealize.ShloMosaic Idealize.ShloMosaic.TcCoe Idealize.SL.Sem
open Cert.KernelIdeal Cert.KernelIdeal.Gen

/-! ## What one grid point adds to the carried 8 by 128 block

The kernel unrolls a hundred bins. Each bin adds, in its own lane, a count over the point's 128 rows of
similarities. Here the hundred steps are one recursion. -/

variable {F : FTy → Type} [FloatOps F]

/-- The lane numbers of a 128-lane row. -/
def lane : IVec S1x128 32 := iota .tc S1x128 32 [1] iota_S1x128_d1_w32

/-- The sum of a 128 by 4096 block as the kernel takes it. -/
def total (x : FVec F S128x4096 .f32) : F .f32 :=
  extractAt ![0, 0, 0] (shapeCast S1x1x1 (multiReduction .add [1, 2] S1 (shapeCast S1x128x4096 x shapeCasts_S128x4096_S1x128x4096)
    0x00000000#32 reduces_S1x128x4096_S1 (.inl rfl) rfl) shapeCasts_S1_S1x1x1) inpos_S1x1x1_p0_0_0

/-- The sum of a 128 by 1 column as the kernel takes it. -/
def totalCol (x : FVec F S128x1 .f32) : F .f32 :=
  extractAt ![0, 0, 0] (shapeCast S1x1x1 (multiReduction .add [1, 2] S1 (shapeCast S1x128x1 x shapeCasts_S128x1_S1x128x1)
    0x00000000#32 reduces_S1x128x1_S1 (.inl rfl) rfl) shapeCasts_S1_S1x1x1) inpos_S1x1x1_p0_0_0

/-- The sum of a 128-lane row as the kernel takes it. -/
def totalRow (x : FVec F S1x128 .f32) : F .f32 :=
  extractAt ![0, 0, 0] (shapeCast S1x1x1 (multiReduction .add [1, 2] S1 (shapeCast S1x1x128 x shapeCasts_S1x128_S1x1x128)
    0x00000000#32 reduces_S1x1x128_S1 (.inl rfl) rfl) shapeCasts_S1_S1x1x1) inpos_S1x1x1_p0_0_0

/-- How many entries of a 128 by 4096 block of words are the word `b`, as a float. -/
def count (v : IVec S128x4096 32) (b : BitVec 32) : F .f32 :=
  total (sitofp .f32 (extui 32 (cmpi .eq v (broadcast S128x4096 b)) natLt_1_32))

/-- How many entries of a 128 by 1 column of words are the word `b`, as a float. -/
def countCol (v : IVec S128x1 32) (b : BitVec 32) : F .f32 :=
  totalCol (sitofp .f32 (extui 32 (cmpi .eq v (broadcast S128x1 b)) natLt_1_32))

/-- Add the scalar `x` to lane `b` of a row. -/
def put (h : FVec F S1x128 .f32) (b : BitVec 32) (x : F .f32) : FVec F S1x128 .f32 :=
  addf h (select (cmpi .eq lane (broadcast S1x128 b)) (broadcast S1x128 x) (broadcast S1x128 (Scalar.ofBits .f32 0x00000000#32)))

/-- Add `x 0, …, x (n - 1)` to the lanes `0, …, n - 1` of a row. -/
def puts (x : BitVec 32 → F .f32) (h : FVec F S1x128 .f32) : Nat → FVec F S1x128 .f32
  | 0 => h
  | n + 1 => put (puts x h n) (BitVec.ofNat 32 n) (x (BitVec.ofNat 32 n))

/-- A row cast to its own shape, which the kernel stores. -/
abbrev cast1 (x : FVec F S1x128 .f32) : FVec F S1x128 .f32 := shapeCast S1x128 x shapeCasts_S1x128_S1x128

/-- The point's 128 normalised rows. -/
def rowsAt (i : grid0.Coords) (E : Vec F S4096x128 .f32) : Vec F S128x128 .f32 :=
  View.ld E (Rect.unit (s := S4096x128) (k0_off1 i) S128x128.size (k0_off1_inb i))

/-- The labels of the point's 128 rows. -/
def labsAt (i : grid0.Coords) (C : Vec F S4096x1 .i32) : Vec F S128x1 .i32 :=
  View.ld C (Rect.unit (s := S4096x1) (k0_off2 i) S128x1.size (k0_off2_inb i))

/-- Row 0 of the carried block after a point: the counts of all the point's bins. -/
def row0 (i : grid0.Coords) (E : Vec F S4096x128 .f32) (h : FVec F S1x128 .f32) : FVec F S1x128 .f32 :=
  cast1 (puts (count (k0_pay11 (rowsAt i E) E)) h 100)

/-- Row 1: the counts of the bins of the pairs with equal labels. -/
def row1 (i : grid0.Coords) (E : Vec F S4096x128 .f32) (R : Vec F S1x4096 .i32) (C : Vec F S4096x1 .i32) (h : FVec F S1x128 .f32) : FVec F S1x128 .f32 :=
  cast1 (puts (count (k0_pay12 (rowsAt i E) E (labsAt (F := F) i C) R)) h 100)

/-- Row 2: the counts of the bins on the diagonal. -/
def row2 (i : grid0.Coords) (E : Vec F S4096x128 .f32) (h : FVec F S1x128 .f32) : FVec F S1x128 .f32 :=
  cast1 (puts (countCol (k0_pay14 (k0_pay10 i) (k0_pay11 (rowsAt i E) E) 0#32)) h 100)

/-- Row 3: four running sums, over all pairs, over the pairs with equal labels, of the number of those, and over the diagonal. -/
def row3 (i : grid0.Coords) (E : Vec F S4096x128 .f32) (R : Vec F S1x4096 .i32) (C : Vec F S4096x1 .i32) (h : FVec F S1x128 .f32) : FVec F S1x128 .f32 :=
  cast1 (put (put (put (put h 0#32 (total (k0_pay8 (rowsAt i E) E)))
    1#32 (total (select (k0_pay9 (F := F) (labsAt (F := F) i C) R) (k0_pay8 (rowsAt i E) E) (broadcast S128x4096 (Scalar.ofBits .f32 0x00000000#32)))))
    2#32 (total (sitofp .f32 (extui 32 (k0_pay9 (F := F) (labsAt (F := F) i C) R) natLt_1_32))))
    3#32 (totalCol (k0_pay13 i (rowsAt i E) E)))

/-- Row `r` of an 8 by 128 block. -/
def rowOf (H : Vec F S8x128 .f32) (r : Nat) (hr : ∀ a, (![r, 0] : Fin 2 → Nat) a + S1x128.size a ≤ S8x128.size a) : Vec F S1x128 .f32 :=
  View.ld H (Rect.unit (s := S8x128) ![r, 0] S1x128.size hr)

/-- The carried block after a point, from what it was before. -/
def next (i : grid0.Coords) (E : Vec F S4096x128 .f32) (R : Vec F S1x4096 .i32) (C : Vec F S4096x1 .i32) (H : Vec F S8x128 .f32) : Vec F S8x128 .f32 := fun j =>
  if (j 0).val = 0 then row0 i E (rowOf H 0 inb_S8x128_S1x128_0_0) (ix2 0 (j 1))
  else if (j 0).val = 1 then row1 i E R C (rowOf H 1 inb_S8x128_S1x128_1_0) (ix2 0 (j 1))
  else if (j 0).val = 2 then row2 i E (rowOf H 2 inb_S8x128_S1x128_2_0) (ix2 0 (j 1))
  else if (j 0).val = 3 then row3 i E R C (rowOf H 3 inb_S8x128_S1x128_3_0) (ix2 0 (j 1))
  else H j

/-- Four rows stored one after the other into an 8 by 128 block, read back at an index. -/
theorem read_rows {κ : Kind} {sp : Space} (v : View sig κ sp S8x128 .f32) (f : v.ty.Contents (Elt F))
    (p0 p1 p2 p3 : Vec F S1x128 .f32) (j : S8x128.Idx) :
    v.read (Elt F) (v.writes (Elt F) f
      [⟨Rect.unit (s := S8x128) ![3, 0] S1x128.size inb_S8x128_S1x128_3_0, p3⟩,
       ⟨Rect.unit (s := S8x128) ![2, 0] S1x128.size inb_S8x128_S1x128_2_0, p2⟩,
       ⟨Rect.unit (s := S8x128) ![1, 0] S1x128.size inb_S8x128_S1x128_1_0, p1⟩,
       ⟨Rect.unit (s := S8x128) ![0, 0] S1x128.size inb_S8x128_S1x128_0_0, p0⟩]) j
    = if (j 0).val = 0 then p0 (ix2 0 (j 1)) else if (j 0).val = 1 then p1 (ix2 0 (j 1))
      else if (j 0).val = 2 then p2 (ix2 0 (j 1)) else if (j 0).val = 3 then p3 (ix2 0 (j 1)) else v.read (Elt F) f j := by
  have hit : ∀ r : Nat, (j 0).val = r → ∀ a : Fin 2, (j a).val = (![r, 0] : Fin 2 → Nat) a + 1 * ((ix2 0 (j 1) : S1x128.Idx) a).val := by
    intro r hr a
    fin_cases a
    · simpa using hr
    · simp
  have h3 : (j 0).val = 3 ∨ (j 0).val ≠ 3 := em _
  by_cases e3 : (j 0).val = 3
  · rw [View.read_writes_cons_hit_of_coords v f _ _ _ (ix2 0 (j 1)) j (hit 3 e3)]
    simp [e3]
  rw [View.read_writes_cons_miss_of_axis v f _ _ j 0 3 1 rfl rfl rfl (by omega)]
  by_cases e2 : (j 0).val = 2
  · rw [View.read_writes_cons_hit_of_coords v f _ _ _ (ix2 0 (j 1)) j (hit 2 e2)]
    simp [e2]
  rw [View.read_writes_cons_miss_of_axis v f _ _ j 0 2 1 rfl rfl rfl (by omega)]
  by_cases e1 : (j 0).val = 1
  · rw [View.read_writes_cons_hit_of_coords v f _ _ _ (ix2 0 (j 1)) j (hit 1 e1)]
    simp [e1]
  rw [View.read_writes_cons_miss_of_axis v f _ _ j 0 1 1 rfl rfl rfl (by omega)]
  by_cases e0 : (j 0).val = 0
  · rw [View.read_writes_cons_hit_of_coords v f _ _ _ (ix2 0 (j 1)) j (hit 0 e0)]
    simp [e0]
  rw [View.read_writes_cons_miss_of_axis v f _ _ j 0 0 1 rfl rfl rfl (by omega)]
  simp [e0, e1, e2, e3, View.writes_nil]

variable (m : (ℓ : Loc nD τ sig) → Buf (Elt Ideal) ℓ)

/-- A middle point carries the block on by `next`. -/
theorem carried_B (c : Dev nD) (t : Fin cfg0.N) (h0 : ¬t.val % 32 = 0) (h1 : ¬t.val % 32 = 31) :
    (outsAt0 m c t.val t.isLt).2.2 = next (grid0.coords t) ((outsAt0 m c (t.val - 1) (by omega)).2.1) (iblk m c 1 t) (iblk m c 2 t)
      ((outsAt0 m c (t.val - 1) (by omega)).2.2) := by
  funext j
  rw [outsAt0_B m c t h0 h1]
  frame_open
  simp (disch := decide) only [↓ View.readCov_skip, ↓ View.readCov_cons_toLoadRect, ↓ View.readCov_fill]
  frame_out
  simp only [read_unread_whole]
  refine (read_rows (F := Ideal) _ _ _ _ _ _ j).trans ?_
  unfold next rowOf
  refine congr (congrArg (ite _) ?_) ?_
  · exact congrFun (by sl_kernel_rfl) _
  refine congr (congrArg (ite _) ?_) ?_
  · exact congrFun (by sl_kernel_rfl) _
  refine congr (congrArg (ite _) ?_) ?_
  · exact congrFun (by sl_kernel_rfl) _
  refine congr (congrArg (ite _) ?_) ?_
  · exact congrFun (by sl_kernel_rfl) _
  exact congrFun (Memref.IsWhole.read_unread _ _) j

/-- The last point carries the block on by `next`. -/
theorem carried_C (c : Dev nD) (t : Fin cfg0.N) (h0 : ¬t.val % 32 = 0) (h1 : t.val % 32 = 31) :
    (outsAt0 m c t.val t.isLt).2.2 = next (grid0.coords t) ((outsAt0 m c (t.val - 1) (by omega)).2.1) (iblk m c 1 t) (iblk m c 2 t)
      ((outsAt0 m c (t.val - 1) (by omega)).2.2) := by
  funext j
  rw [outsAt0_C m c t h0 h1]
  frame_open
  simp (disch := decide) only [↓ View.readCov_skip, ↓ View.readCov_cons_toLoadRect, ↓ View.readCov_fill]
  frame_out
  simp only [read_unread_whole]
  refine (read_rows (F := Ideal) _ _ _ _ _ _ j).trans ?_
  unfold next rowOf
  refine congr (congrArg (ite _) ?_) ?_
  · exact congrFun (by sl_kernel_rfl) _
  refine congr (congrArg (ite _) ?_) ?_
  · exact congrFun (by sl_kernel_rfl) _
  refine congr (congrArg (ite _) ?_) ?_
  · exact congrFun (by sl_kernel_rfl) _
  refine congr (congrArg (ite _) ?_) ?_
  · exact congrFun (by sl_kernel_rfl) _
  exact congrFun (Memref.IsWhole.read_unread _ _) j

/-- The first point starts from the zero block. -/
theorem carried_A (c : Dev nD) (t : Fin cfg0.N) (h0 : t.val % 32 = 0) (h1 : ¬t.val % 32 = 31) :
    (outsAt0 m c t.val t.isLt).2.2 = next (grid0.coords t) (k0_pay6 (iblk m c 0 t)) (iblk m c 1 t) (iblk m c 2 t) (k0_pay7 (F := Ideal)) := by
  funext j
  rw [outsAt0_A m c t h0 h1]
  frame_open
  simp (disch := decide) only [↓ View.readCov_skip, ↓ View.readCov_cons_toLoadRect, ↓ View.readCov_fill]
  frame_out
  rw [← View.read_writes_junk_eq_canon scM0_1.view]
  refine (congrFun (congrArg _ (View.writes_append scM0_1.view _ [_, _, _, _] [_])) j).trans ?_
  refine (read_rows (F := Ideal) _ _ _ _ _ _ j).trans ?_
  unfold next rowOf
  refine congr (congrArg (ite _) ?_) ?_
  · exact congrFun (by sl_kernel_rfl) _
  refine congr (congrArg (ite _) ?_) ?_
  · exact congrFun (by sl_kernel_rfl) _
  refine congr (congrArg (ite _) ?_) ?_
  · exact congrFun (by sl_kernel_rfl) _
  refine congr (congrArg (ite _) ?_) ?_
  · exact congrFun (by sl_kernel_rfl) _
  rw [View.read_writes_junk_eq_canon]
  exact congrFun (View.canon_cons_unit_lit (S := S8x128) (Val := Elt Ideal) (e := .f32) inb_S8x128_S8x128_0_0 (k0_pay7 (F := Ideal)) [] (by decide)) j

/-- The first point fills the carried embeddings with the normalised ones. -/
theorem emb_A (c : Dev nD) (t : Fin cfg0.N) (h0 : t.val % 32 = 0) (h1 : ¬t.val % 32 = 31) :
    (outsAt0 m c t.val t.isLt).2.1 = k0_pay6 (iblk m c 0 t) := by
  rw [outsAt0_A m c t h0 h1]
  frame_out

/-- A later point leaves them as they are. -/
theorem emb_BC (c : Dev nD) (t : Fin cfg0.N) (h0 : ¬t.val % 32 = 0) :
    (outsAt0 m c t.val t.isLt).2.1 = (outsAt0 m c (t.val - 1) (by omega)).2.1 := by
  by_cases h1 : t.val % 32 = 31
  · rw [outsAt0_C m c t h0 h1]; rfl
  · rw [outsAt0_B m c t h0 h1]; rfl

/-- The 128-lane result from the four rows of the carried block. -/
def result (r0 r1 r2 r3 : Vec Ideal S1x128 .f32) : Vec Ideal S1x128 .f32 :=
  k0_pay2 (F := Ideal) lane (k0_pay3 r0 r1 r2) r3 (k0_pay4 lane r3) (k0_pay5 lane r3)

/-- What the last point writes to the result block. -/
theorem out_C (c : Dev nD) (t : Fin cfg0.N) (h0 : ¬t.val % 32 = 0) (h1 : t.val % 32 = 31) :
    (outsAt0 m c t.val t.isLt).1 =
      (let E := (outsAt0 m c (t.val - 1) (by omega)).2.1
       let H := (outsAt0 m c (t.val - 1) (by omega)).2.2
       let i := grid0.coords t
       let R := iblk m c 1 t
       let C := iblk m c 2 t
       result (row0 i E (rowOf H 0 inb_S8x128_S1x128_0_0)) (row1 i E R C (rowOf H 1 inb_S8x128_S1x128_1_0))
         (row2 i E (rowOf H 2 inb_S8x128_S1x128_2_0)) (row3 i E R C (rowOf H 3 inb_S8x128_S1x128_3_0))) := by
  rw [outsAt0_C m c t h0 h1]
  frame_open
  simp (disch := decide) only [↓ View.readCov_skip, ↓ View.readCov_cons_toLoadRect, ↓ View.readCov_fill]
  frame_out
  simp only [read_unread_whole]
  unfold rowOf
  sl_kernel_rfl

end Cert.KernelIdeal.Hist

end
-- ==== Proof.Spec.lean ====
module

public import Idealize.ShloMosaic.Lib.Pipeline.ValueKit

@[expose] public section

noncomputable section

namespace Cert.Hist

open Idealize.ShloMosaic
open scoped BigOperators

/-! ## The mathematics both programs compute, in closed form -/

/-- A row's entry over the row's length, the length kept away from zero by `1e-12`. -/
def nrm (X : Fin 4096 → Fin 128 → EReal) (i : Fin 4096) (k : Fin 128) : EReal :=
  Ideal.div (X i k) (max (Ideal.sqrt (∑ q : Fin 128, X i q * X i q)) (Ideal.ofBits .f32 0x2B8CBCCC#32))

/-- The similarity of two rows. -/
def sim (X : Fin 4096 → Fin 128 → EReal) (i j : Fin 4096) : EReal := ∑ k : Fin 128, nrm X i k * nrm X j k

/-- The bin of a similarity as the kernel computes it. -/
def bin (s : EReal) : BitVec 32 :=
  IntOp.minsi 99#32 (IntOp.maxsi 0#32 (Ideal.fptosi 32 ((s + 1) * Ideal.ofBits .f32 0x42480000#32)))

end Cert.Hist

end
-- ==== Proof.Lanes.lean ====
module

public import proofs.«01_k».proof.Proof.Rows
public import proofs.«01_k».proof.Proof.Spec

@[expose] public section

set_option maxRecDepth 16384

noncomputable section

namespace Cert.KernelIdeal.Hist

open Idealize.ShloMosaic Idealize.ShloMosaic.TcCoe Idealize.SL.Sem
open Cert.KernelIdeal Cert.KernelIdeal.Gen
open scoped BigOperators

/-! ## The kernel's sums and lane updates, read at an index over the extended reals -/

/-- The equality bit of two words, widened and read as a float, is one or zero. -/
theorem bit_real (x y : BitVec 32) :
    FloatOps.sitofp (F := Ideal) FTy.f32 (BitVec.setWidth 32 (IntOp.cmpi .eq x y)) = (if x = y then 1 else 0 : EReal) := by
  show (((BitVec.setWidth 32 (IntOp.cmpi .eq x y)).toInt : ℝ) : EReal) = _
  by_cases h : x = y
  · simp [IntOp.cmpi, h]
  · have hb : (x == y) = false := by simp [h]
    simp [IntOp.cmpi, h, hb]

/-- A selection by the equality of two words. -/
theorem select_eq {α : Type} {w : Nat} (x y : BitVec w) (u v : α) : Scalar.select (IntOp.cmpi .eq x y) u v = if x = y then u else v := by
  by_cases h : x = y
  · simp [IntOp.cmpi, Scalar.select, h]
  · have hb : (x == y) = false := by simp [h]
    simp [IntOp.cmpi, Scalar.select, h, hb]

/-- The sum of a block is the sum of its entries. -/
theorem total_eq (x : FVec Ideal S128x4096 .f32) : total x = (∑ a : Fin 128, ∑ b : Fin 4096, x (ix2 a b) : EReal) := by
  unfold total
  pointwise

/-- The sum of a column is the sum of its entries. -/
theorem totalCol_eq (x : FVec Ideal S128x1 .f32) : totalCol x = (∑ a : Fin 128, x (ix2 a 0) : EReal) := by
  unfold totalCol
  pointwise
  simp

/-- The sum of a row is the sum of its entries. -/
theorem totalRow_eq (x : FVec Ideal S1x128 .f32) : totalRow x = (∑ a : Fin 128, x (ix2 0 a) : EReal) := by
  unfold totalRow
  pointwise
  simp

/-- One lane update at a lane. -/
theorem put_apply (h : FVec Ideal S1x128 .f32) (b : BitVec 32) (x : EReal) (l : Fin 128) :
    put h b x (ix2 0 l) = h (ix2 0 l) + (if BitVec.ofNat 32 l.val = b then x else 0 : EReal) := by
  unfold put lane
  pointwise
  rw [select_eq]

/-- The first `n` lanes each gain their own amount; the others stay. -/
theorem puts_apply (x : BitVec 32 → EReal) (h : FVec Ideal S1x128 .f32) (n : Nat) (hn : n ≤ 128) (l : Fin 128) :
    puts (F := Ideal) x h n (ix2 0 l) = h (ix2 0 l) + (if l.val < n then x (BitVec.ofNat 32 l.val) else 0 : EReal) := by
  induction n with
  | zero => simp [puts]
  | succ n ih =>
    have hw : BitVec.ofNat 32 l.val = BitVec.ofNat 32 n ↔ l.val = n := by
      constructor
      · intro h
        have := congrArg BitVec.toNat h
        simp only [BitVec.toNat_ofNat] at this
        omega
      · intro h; rw [h]
    rw [puts, put_apply, ih (by omega)]
    by_cases h1 : l.val = n
    · simp [h1]
    · have h2 : (l.val < n + 1) = (l.val < n) := by simp; omega
      simp only [hw, h1, h2, if_false, add_zero]

/-- A count over a block is the number of its entries that are the word. -/
theorem count_eq (v : IVec S128x4096 32) (b : BitVec 32) :
    count (F := Ideal) v b = (∑ a : Fin 128, ∑ c : Fin 4096, if v (ix2 a c) = b then 1 else 0 : EReal) := by
  unfold count
  rw [total_eq]
  pointwise
  simp only [bit_real]

/-- A count over a column is the number of its entries that are the word. -/
theorem countCol_eq (v : IVec S128x1 32) (b : BitVec 32) :
    countCol (F := Ideal) v b = (∑ a : Fin 128, if v (ix2 a 0) = b then 1 else 0 : EReal) := by
  unfold countCol
  rw [totalCol_eq]
  pointwise
  simp only [bit_real]

/-- A grid point's rows lie inside the array. -/
theorem rowAt_lt (i : grid0.Coords) (a : Fin 128) : 128 * (i 0).val + a.val < 4096 := by
  have h : (i 0).val < 32 := (i 0).isLt
  omega

/-- The array row that row `a` of point `i`'s block is. -/
def rowNo (i : grid0.Coords) (a : Fin 128) : Fin 4096 := ⟨128 * (i 0).val + a.val, rowAt_lt i a⟩

/-- Row `a` of the point's block of rows. -/
theorem rowsAt_apply (i : grid0.Coords) (E : Vec Ideal S4096x128 .f32) (a k : Fin 128) :
    rowsAt i E (ix2 a k) = E (ix2 (rowNo i a) k) := by
  unfold rowsAt rowNo
  pointwise
  blk_ext [k0_off1_eq]

/-- Label `a` of the point's block of labels. -/
theorem labsAt_apply (i : grid0.Coords) (C : Vec Ideal S4096x1 .i32) (a : Fin 128) :
    labsAt (F := Ideal) i C (ix2 a 0) = C (ix2 (rowNo i a) 0) := by
  unfold labsAt rowNo
  pointwise
  blk_ext [k0_off2_eq]

/-- The normalised embeddings. -/
theorem pay6_apply (X : Vec Ideal S4096x128 .f32) (a : Fin 4096) (k : Fin 128) :
    k0_pay6 (F := Ideal) X (ix2 a k) = Cert.Hist.nrm (fun i k => X (ix2 i k)) a k := by
  pointwise [k0_pay6]
  rfl

/-- The products of the point's rows with all rows. -/
theorem pay8_apply (A : Vec Ideal S128x128 .f32) (E : Vec Ideal S4096x128 .f32) (a : Fin 128) (c : Fin 4096) :
    k0_pay8 (F := Ideal) A E (ix2 a c) = (∑ k : Fin 128, A (ix2 a k) * E (ix2 c k) : EReal) := by
  pointwise [k0_pay8]

/-- They are the similarities. -/
theorem sim_apply (i : grid0.Coords) (X : Vec Ideal S4096x128 .f32) (a : Fin 128) (c : Fin 4096) :
    k0_pay8 (F := Ideal) (rowsAt i (k0_pay6 X)) (k0_pay6 X) (ix2 a c) = Cert.Hist.sim (fun i k => X (ix2 i k)) (rowNo i a) c := by
  simp only [pay8_apply, rowsAt_apply, pay6_apply, Cert.Hist.sim]

/-- The bins of the point's pairs. -/
theorem bin_apply (i : grid0.Coords) (X : Vec Ideal S4096x128 .f32) (a : Fin 128) (c : Fin 4096) :
    k0_pay11 (F := Ideal) (rowsAt i (k0_pay6 X)) (k0_pay6 X) (ix2 a c)
      = Cert.Hist.bin (Cert.Hist.sim (fun i k => X (ix2 i k)) (rowNo i a) c) := by
  pointwise [k0_pay11]
  rw [sim_apply]
  rfl

/-- Whether a pair's labels are equal. -/
theorem pay9_apply (A : Vec Ideal S128x1 .i32) (R : Vec Ideal S1x4096 .i32) (a : Fin 128) (c : Fin 4096) :
    k0_pay9 (F := Ideal) A R (ix2 a c) = IntOp.cmpi .eq (A (ix2 a 0)) (R (ix2 0 c)) := by
  pointwise [k0_pay9]

/-- Whether a pair is on the diagonal. -/
theorem select_pay10 {α : Type} (i : grid0.Coords) (a : Fin 128) (c : Fin 4096) (u v : α) :
    Scalar.select (k0_pay10 i (ix2 a c)) u v = if c = rowNo i a then u else v := by
  pointwise [k0_pay10]
  have h : (i 0).val < 32 := (i 0).isLt
  rw [select_eq]
  refine if_congr ?_ rfl rfl
  rw [Fin.ext_iff]
  show BitVec.ofNat 32 c.val = BitVec.ofNat 32 a.val + BitVec.ofNat 32 (i 0).val * 128#32 ↔ c.val = 128 * (i 0).val + a.val
  constructor
  · intro h
    have := congrArg BitVec.toNat h
    simp only [BitVec.toNat_ofNat, BitVec.toNat_add, BitVec.toNat_mul] at this
    omega
  · intro h
    apply BitVec.eq_of_toNat_eq
    simp only [BitVec.toNat_ofNat, BitVec.toNat_add, BitVec.toNat_mul]
    omega

/-- The similarities on the diagonal. -/
theorem pay13_apply (i : grid0.Coords) (X : Vec Ideal S4096x128 .f32) (a : Fin 128) :
    k0_pay13 (F := Ideal) i (rowsAt i (k0_pay6 X)) (k0_pay6 X) (ix2 a 0)
      = Cert.Hist.sim (fun i k => X (ix2 i k)) (rowNo i a) (rowNo i a) := by
  pointwise [k0_pay13]
  simp only [select_pay10, Finset.sum_ite_eq', Finset.mem_univ, if_true, sim_apply]

/-- A sum of words with one term that can differ from zero. -/
theorem fold_single {n : Nat} (r : Fin n) (w : Fin n → BitVec 32) (s : Finset (Fin n)) :
    Finset.fold IntOp.addi 0#32 (fun x => if x = r then w x else 0#32) s = if r ∈ s then w r else 0#32 := by
  induction s using Finset.induction_on with
  | empty => simp
  | insert a s ha ih =>
    rw [Finset.fold_insert ha, ih]
    by_cases h : a = r
    · subst h
      simp [ha, IntOp.addi]
    · have h' : r ≠ a := fun e => h e.symm
      simp [h, h', IntOp.addi, Finset.mem_insert]

/-- The bins on the diagonal. -/
theorem pay14_apply (i : grid0.Coords) (X : Vec Ideal S4096x128 .f32) (a : Fin 128) :
    k0_pay14 (k0_pay10 i) (k0_pay11 (F := Ideal) (rowsAt i (k0_pay6 X)) (k0_pay6 X)) 0#32 (ix2 a 0)
      = Cert.Hist.bin (Cert.Hist.sim (fun i k => X (ix2 i k)) (rowNo i a) (rowNo i a)) := by
  pointwise [k0_pay14]
  simp only [select_pay10]
  rw [fold_single]
  simp only [Finset.mem_univ, if_true, bin_apply]

end Cert.KernelIdeal.Hist

end
-- ==== Proof.Points.lean ====
module

public import proofs.«01_k».proof.Proof.Lanes

@[expose] public section

set_option maxRecDepth 16384

noncomputable section

namespace Cert.KernelIdeal.Hist

open Idealize.ShloMosaic Idealize.ShloMosaic.TcCoe Idealize.SL.Sem
open Cert.KernelIdeal Cert.KernelIdeal.Gen
open Cert.Hist (nrm sim bin)
open scoped BigOperators

/-! ## What one grid point adds to the carried block -/

/-- What array row `p` adds to lane `l` of row `r` of the carried block. -/
def amt (X : Fin 4096 → Fin 128 → EReal) (L : Fin 4096 → BitVec 32) (r : Fin 8) (l : Fin 128) (p : Fin 4096) : EReal :=
  if r.val = 0 then if l.val < 100 then ∑ q : Fin 4096, (if bin (sim X p q) = BitVec.ofNat 32 l.val then 1 else 0) else 0
  else if r.val = 1 then
    if l.val < 100 then ∑ q : Fin 4096, (if (if L p = L q then bin (sim X p q) else 255#32) = BitVec.ofNat 32 l.val then 1 else 0) else 0
  else if r.val = 2 then if l.val < 100 then (if bin (sim X p p) = BitVec.ofNat 32 l.val then 1 else 0) else 0
  else if r.val = 3 then
    (((if l.val = 0 then ∑ q : Fin 4096, sim X p q else 0) + (if l.val = 1 then ∑ q : Fin 4096, (if L p = L q then sim X p q else 0) else 0))
      + (if l.val = 2 then ∑ q : Fin 4096, (if L p = L q then 1 else 0) else 0)) + (if l.val = 3 then sim X p p else 0)
  else 0

/-- A condition on a whole sum is a condition on each term. -/
theorem ite_sum {n : Nat} (p : Prop) [Decidable p] (f : Fin n → EReal) :
    (if p then ∑ a, f a else 0) = ∑ a, if p then f a else 0 := by
  by_cases h : p <;> simp [h]

/-- A lane's word is a literal's exactly when the lane is. -/
theorem lane_word (l : Fin 128) (n : Nat) (hn : n < 128) : BitVec.ofNat 32 l.val = BitVec.ofNat 32 n ↔ l.val = n := by
  constructor
  · intro h
    have := congrArg BitVec.toNat h
    simp only [BitVec.toNat_ofNat] at this
    omega
  · intro h; rw [h]

/-- A row read out of a block. -/
theorem rowOf_apply (H : Vec Ideal S8x128 .f32) (r : Nat) (hr : ∀ a, (![r, 0] : Fin 2 → Nat) a + S1x128.size a ≤ S8x128.size a)
    (r' : Fin 8) (h : r'.val = r) (l : Fin 128) : rowOf H r hr (ix2 0 l) = H (ix2 r' l) := by
  unfold rowOf
  pointwise
  blk_ext [h]

/-- The bins of the pairs with equal labels, 255 at the others. -/
theorem pay12_apply (i : grid0.Coords) (X : Vec Ideal S4096x128 .f32) (A : Vec Ideal S128x1 .i32) (R : Vec Ideal S1x4096 .i32) (a : Fin 128) (c : Fin 4096) :
    k0_pay12 (F := Ideal) (rowsAt i (k0_pay6 X)) (k0_pay6 X) A R (ix2 a c)
      = if A (ix2 a 0) = R (ix2 0 c) then bin (sim (fun i k => X (ix2 i k)) (rowNo i a) c) else 255#32 := by
  pointwise [k0_pay12]
  rw [pay9_apply, select_eq, bin_apply]

variable (i : grid0.Coords) (Xv : Vec Ideal S4096x128 .f32) (R : Vec Ideal S1x4096 .i32) (C : Vec Ideal S4096x1 .i32)
  (L : Fin 4096 → BitVec 32) (hR : ∀ c, R (ix2 0 c) = L c) (hC : ∀ c, C (ix2 c 0) = L c)

/-- What one grid point adds to row 0 of the carried block. -/
theorem row0_apply (h : FVec Ideal S1x128 .f32) (l : Fin 128) :
    row0 i (k0_pay6 Xv) h (ix2 0 l) = h (ix2 0 l) + ∑ a : Fin 128, amt (fun i k => Xv (ix2 i k)) L 0 l (rowNo i a) := by
  unfold row0
  pointwise
  rw [puts_apply _ _ 100 (by decide), count_eq, ite_sum]
  simp only [bin_apply]
  rfl

include hR hC in
/-- What one grid point adds to row 1 of the carried block. -/
theorem row1_apply (h : FVec Ideal S1x128 .f32) (l : Fin 128) :
    row1 i (k0_pay6 Xv) R C h (ix2 0 l) = h (ix2 0 l) + ∑ a : Fin 128, amt (fun i k => Xv (ix2 i k)) L 1 l (rowNo i a) := by
  unfold row1
  pointwise
  rw [puts_apply _ _ 100 (by decide), count_eq, ite_sum]
  simp only [pay12_apply, labsAt_apply, hR, hC]
  rfl

/-- What one grid point adds to row 2 of the carried block. -/
theorem row2_apply (h : FVec Ideal S1x128 .f32) (l : Fin 128) :
    row2 i (k0_pay6 Xv) h (ix2 0 l) = h (ix2 0 l) + ∑ a : Fin 128, amt (fun i k => Xv (ix2 i k)) L 2 l (rowNo i a) := by
  unfold row2
  pointwise
  rw [puts_apply _ _ 100 (by decide), countCol_eq, ite_sum]
  simp only [pay14_apply]
  rfl

include hR hC in
/-- What one grid point adds to row 3 of the carried block. -/
theorem row3_apply (h : FVec Ideal S1x128 .f32) (l : Fin 128) :
    row3 i (k0_pay6 Xv) R C h (ix2 0 l) = h (ix2 0 l) + ∑ a : Fin 128, amt (fun i k => Xv (ix2 i k)) L 3 l (rowNo i a) := by
  unfold row3
  pointwise
  simp only [put_apply, lane_word l 0 (by decide), lane_word l 1 (by decide), lane_word l 2 (by decide), lane_word l 3 (by decide)]
  rw [total_eq, total_eq, total_eq, totalCol_eq, ite_sum, ite_sum, ite_sum, ite_sum, add_assoc, add_assoc, add_assoc,
    ← Finset.sum_add_distrib, ← Finset.sum_add_distrib, ← Finset.sum_add_distrib]
  congr 1
  refine Finset.sum_congr rfl fun a _ => ?_
  pointwise
  simp only [pay9_apply, labsAt_apply, hR, hC, select_eq, bit_real, sim_apply, pay13_apply]
  show _ = (((if l.val = 0 then _ else _) + (if l.val = 1 then _ else _)) + (if l.val = 2 then _ else _)) + (if l.val = 3 then _ else _)
  rw [add_assoc, add_assoc]

include hR hC in
/-- One grid point adds to every entry of the carried block what its 128 rows add. -/
theorem next_apply (H : Vec Ideal S8x128 .f32) (r : Fin 8) (l : Fin 128) :
    next i (k0_pay6 Xv) R C H (ix2 r l) = H (ix2 r l) + ∑ a : Fin 128, amt (fun i k => Xv (ix2 i k)) L r l (rowNo i a) := by
  unfold next
  have e0 : (ix2 r l : S8x128.Idx) 0 = r := rfl
  have e1 : (ix2 r l : S8x128.Idx) 1 = l := rfl
  simp only [e0, e1]
  by_cases h0 : r.val = 0
  · obtain rfl : r = 0 := Fin.ext h0
    rw [if_pos h0, row0_apply i Xv L, rowOf_apply _ 0 _ 0 rfl]
  by_cases h1 : r.val = 1
  · obtain rfl : r = 1 := Fin.ext h1
    rw [if_neg h0, if_pos h1, row1_apply i Xv R C L hR hC, rowOf_apply _ 1 _ 1 rfl]
  by_cases h2 : r.val = 2
  · obtain rfl : r = 2 := Fin.ext h2
    rw [if_neg h0, if_neg h1, if_pos h2, row2_apply i Xv L, rowOf_apply _ 2 _ 2 rfl]
  by_cases h3 : r.val = 3
  · obtain rfl : r = 3 := Fin.ext h3
    rw [if_neg h0, if_neg h1, if_neg h2, if_pos h3, row3_apply i Xv R C L hR hC, rowOf_apply _ 3 _ 3 rfl]
  · rw [if_neg h0, if_neg h1, if_neg h2, if_neg h3]
    simp [amt, h0, h1, h2, h3]

end Cert.KernelIdeal.Hist

end
-- ==== Proof.Acc.lean ====
module

public import proofs.«01_k».proof.Proof.Points
public import Idealize.ShloMosaic.Lib.ValueLayout

@[expose] public section

set_option maxRecDepth 16384

noncomputable section

namespace Cert.KernelIdeal.Hist

open Idealize.ShloMosaic Idealize.ShloMosaic.TcCoe Idealize.SL.Sem
open Cert.KernelIdeal Cert.KernelIdeal.Gen
open Cert.Hist (nrm sim bin)
open scoped BigOperators

/-! ## The carried block after every grid point -/

variable (m : (ℓ : Loc nD τ sig) → Buf (Elt Ideal) ℓ) (c : Dev nD)

/-- The embeddings a device holds. -/
def Xin (i : Fin 4096) (k : Fin 128) : EReal := m ((c.tc : Thread nD τ).loc main_arg0) (ix2 i k)

/-- The labels a device holds. -/
def Lin (i : Fin 4096) : BitVec 32 := m ((c.tc : Thread nD τ).loc main_arg1) (ix1 i)

/-- Every point reads the whole of each operand. -/
theorem index_zero : ∀ t : Fin cfg0.N, win0_0.index t = ![0, 0] ∧ win0_1.index t = ![0, 0] ∧ win0_2.index t = ![0, 0] :=
  (by decide +kernel : ∀ t : Fin grid0.N, _)

/-- The grid has one axis. -/
theorem coords_val : ∀ t : Fin cfg0.N, ((grid0.coords t) 0).val = t.val :=
  (by decide +kernel : ∀ t : Fin grid0.N, _)

/-- The first operand's block is the embeddings. -/
theorem emb_block (t : Fin cfg0.N) (i : Fin 4096) (k : Fin 128) : iblk m c 0 t (ix2 i k) = Xin m c i k := by
  unfold Xin
  blk_ext [iblk, V, index_zero t]

/-- The first operand's block is the whole array. -/
theorem emb_whole (t : Fin cfg0.N) : iblk m c 0 t = m ((c.tc : Thread nD τ).loc main_arg0) := by
  blk_ext! [iblk, V, index_zero t]

/-- The labels as the host lays them out in a row. -/
theorem host_row : V m c main_v0 = shapeCast S1x4096 (m ((c.tc : Thread nD τ).loc main_arg1)) shapeCasts_S4096_S1x4096 := by
  rfl

/-- The labels as the host lays them out in a column. -/
theorem host_col : V m c main_v1 = shapeCast S4096x1 (m ((c.tc : Thread nD τ).loc main_arg1)) shapeCasts_S4096_S4096x1 := by
  rfl

/-- The second operand's block is the labels as a row. -/
theorem row_labels (t : Fin cfg0.N) (i : Fin 4096) : iblk m c 1 t (ix2 0 i) = Lin m c i := by
  unfold Lin
  blk_simp [iblk, index_zero t]
  rw [host_row]
  refine (congrArg _ (?_ : _ = ix2 0 i)).trans ?_
  · blk_ext [index_zero t]
  · exact (ix2_eq_valueIdx (0 : Fin 1) i ▸ ValueIdx.shapeCast_a_1a_apply _ shapeCasts_S4096_S1x4096 0 i)

/-- The third operand's block is the labels as a column. -/
theorem col_labels (t : Fin cfg0.N) (i : Fin 4096) : iblk m c 2 t (ix2 i 0) = Lin m c i := by
  unfold Lin
  blk_simp [iblk, index_zero t]
  rw [host_col]
  refine (congrArg _ (?_ : _ = ix2 i 0)).trans ?_
  · blk_ext [index_zero t]
  · pointwise

/-- What row number `n` adds, nothing past the last row. -/
def amtN (X : Fin 4096 → Fin 128 → EReal) (L : Fin 4096 → BitVec 32) (r : Fin 8) (l : Fin 128) (n : Nat) : EReal :=
  if h : n < 4096 then amt X L r l ⟨n, h⟩ else 0

/-- The rows of one point, counted from the rows before it. -/
theorem sum_point (X : Fin 4096 → Fin 128 → EReal) (L : Fin 4096 → BitVec 32) (r : Fin 8) (l : Fin 128) (t : Fin cfg0.N) :
    (∑ n ∈ Finset.range (128 * t.val), amtN X L r l n) + ∑ a : Fin 128, amt X L r l (rowNo (grid0.coords t) a)
      = ∑ n ∈ Finset.range (128 * (t.val + 1)), amtN X L r l n := by
  rw [Nat.mul_add, Finset.sum_range_add, Finset.sum_range (n := 128 * 1)]
  congr 1
  refine Finset.sum_congr rfl fun a _ => ?_
  unfold amtN rowNo
  have ht : t.val < 32 := t.isLt
  have ha : a.val < 128 := a.isLt
  rw [dif_pos (by omega)]
  simp only [coords_val]

/-- After a point the carried embeddings are the normalised ones. -/
theorem carried_emb (t : Fin cfg0.N) : (outsAt0 m c t.val t.isLt).2.1 = k0_pay6 (m ((c.tc : Thread nD τ).loc main_arg0)) := by
  obtain ⟨n, hn⟩ := t
  have hN : cfg0.N = 32 := rfl
  induction n with
  | zero =>
    refine (emb_A m c ⟨0, hn⟩ rfl (by dsimp only; omega)).trans (congrArg _ (emb_whole m c _))
  | succ n ih =>
    refine (emb_BC m c ⟨n + 1, hn⟩ (by dsimp only; omega)).trans ?_
    exact ih (by omega)

/-- After a point every entry of the carried block is the sum over the rows met so far. -/
theorem carried_sum (t : Fin cfg0.N) (r : Fin 8) (l : Fin 128) :
    (outsAt0 m c t.val t.isLt).2.2 (ix2 r l) = ∑ n ∈ Finset.range (128 * (t.val + 1)), amtN (Xin m c) (Lin m c) r l n := by
  obtain ⟨n, hn⟩ := t
  have hN : cfg0.N = 32 := rfl
  induction n with
  | zero =>
    have h := sum_point (Xin m c) (Lin m c) r l ⟨0, hn⟩
    refine Eq.trans ?_ h
    have e := emb_whole m c ⟨0, hn⟩
    rw [carried_A m c ⟨0, hn⟩ rfl (by dsimp only; omega), e, next_apply _ _ _ _ (Lin m c) (row_labels m c _) (col_labels m c _)]
    refine congrArg (· + _) ?_
    pointwise [k0_pay7]
    simp
  | succ n ih =>
    have h := sum_point (Xin m c) (Lin m c) r l ⟨n + 1, hn⟩
    refine Eq.trans ?_ h
    have hc : (outsAt0 m c (n + 1) hn).2.2 = next (grid0.coords ⟨n + 1, hn⟩) ((outsAt0 m c n (by omega)).2.1) (iblk m c 1 ⟨n + 1, hn⟩) (iblk m c 2 ⟨n + 1, hn⟩)
        ((outsAt0 m c n (by omega)).2.2) := by
      by_cases h1 : (n + 1) % 32 = 31
      · exact carried_C m c ⟨n + 1, hn⟩ (by dsimp only; omega) h1
      · exact carried_B m c ⟨n + 1, hn⟩ (by dsimp only; omega) h1
    show (outsAt0 m c (n + 1) hn).2.2 (ix2 r l) = _
    rw [hc, carried_emb m c ⟨n, by omega⟩, next_apply _ _ _ _ (Lin m c) (row_labels m c _) (col_labels m c _), ih (by omega)]
    rfl

/-- The sum over all rows, for the whole grid. -/
def tot (X : Fin 4096 → Fin 128 → EReal) (L : Fin 4096 → BitVec 32) (r : Fin 8) (l : Fin 128) : EReal := ∑ p : Fin 4096, amt X L r l p

/-- The row of such sums. -/
def totRow (X : Fin 4096 → Fin 128 → EReal) (L : Fin 4096 → BitVec 32) (r : Fin 8) : Vec Ideal S1x128 .f32 := fun j => tot X L r (j 1)

/-- The rows before the last point and the last point's own rows together are all the array rows. -/
theorem sum_all (X : Fin 4096 → Fin 128 → EReal) (L : Fin 4096 → BitVec 32) (r : Fin 8) (l : Fin 128) (t : Fin cfg0.N) (h : t.val % 32 = 31) :
    (∑ n ∈ Finset.range (128 * t.val), amtN X L r l n) + ∑ a : Fin 128, amt X L r l (rowNo (grid0.coords t) a) = tot X L r l := by
  have ht : t.val < 32 := t.isLt
  have e : t.val = 31 := by omega
  rw [sum_point, e, Finset.sum_range]
  unfold tot
  refine Finset.sum_congr rfl fun p _ => ?_
  unfold amtN
  rw [dif_pos p.isLt]

/-- Two 128-lane rows with the same lanes are the same. -/
theorem row_ext (u v : Vec Ideal S1x128 .f32) (h : ∀ l : Fin 128, u (ix2 0 l) = v (ix2 0 l)) : u = v := by
  funext j
  have e : j = ix2 (0 : Fin 1) (j 1) := (eq_ix2 j).trans (congrArg (fun a => ix2 a (j 1)) (Subsingleton.elim (α := Fin 1) _ _))
  exact (congrArg u e).trans ((h (j 1)).trans (congrArg v e.symm))

/-- The last point writes the result computed from the four rows of sums. -/
theorem out_last (t : Fin cfg0.N) (h1 : t.val % 32 = 31) :
    (outsAt0 m c t.val t.isLt).1 = result (totRow (Xin m c) (Lin m c) 0) (totRow (Xin m c) (Lin m c) 1) (totRow (Xin m c) (Lin m c) 2) (totRow (Xin m c) (Lin m c) 3) := by
  have ht : t.val < 32 := t.isLt
  have hprev : (outsAt0 m c (t.val - 1) (by omega)).2.1 = k0_pay6 (m ((c.tc : Thread nD τ).loc main_arg0)) := carried_emb m c ⟨t.val - 1, by omega⟩
  have hsum : ∀ r l, (outsAt0 m c (t.val - 1) (by omega)).2.2 (ix2 r l) = ∑ n ∈ Finset.range (128 * t.val), amtN (Xin m c) (Lin m c) r l n := fun r l => by
    have := carried_sum m c ⟨t.val - 1, by omega⟩ r l
    have e : t.val - 1 + 1 = t.val := by omega
    simpa only [e] using this
  rw [out_C m c t (by omega) h1]
  dsimp only
  rw [hprev]
  congr 1
  · refine row_ext _ _ fun l => ?_
    rw [row0_apply _ _ (Lin m c), rowOf_apply _ 0 _ 0 rfl, hsum]
    exact sum_all _ _ _ _ t h1
  · refine row_ext _ _ fun l => ?_
    rw [row1_apply _ _ _ _ (Lin m c) (row_labels m c t) (col_labels m c t), rowOf_apply _ 1 _ 1 rfl, hsum]
    exact sum_all _ _ _ _ t h1
  · refine row_ext _ _ fun l => ?_
    rw [row2_apply _ _ (Lin m c), rowOf_apply _ 2 _ 2 rfl, hsum]
    exact sum_all _ _ _ _ t h1
  · refine row_ext _ _ fun l => ?_
    rw [row3_apply _ _ _ _ (Lin m c) (row_labels m c t) (col_labels m c t), rowOf_apply _ 3 _ 3 rfl, hsum]
    exact sum_all _ _ _ _ t h1

end Cert.KernelIdeal.Hist

end
-- ==== Proof.Out.lean ====
module

public import proofs.«01_k».proof.Proof.Acc
public import proofs.«01_k».proof.Proof.Gen.ReferenceIdeal.Run
public import proofs.«01_k».proof.Defs

@[expose] public section

set_option maxRecDepth 16384

noncomputable section

namespace Cert.KernelIdeal.Hist

open Idealize.ShloMosaic Idealize.ShloMosaic.TcCoe Idealize.SL.Sem
open Cert.KernelIdeal Cert.KernelIdeal.Gen
open Cert.Hist (nrm sim bin)
open scoped BigOperators

/-! ## What the launch leaves in the result -/

variable (m : (ℓ : Loc nD τ sig) → Buf (Elt Ideal) ℓ)

/-- The 128 lanes the kernel writes. -/
def lanes (X : Fin 4096 → Fin 128 → EReal) (L : Fin 4096 → BitVec 32) : Vec Ideal S1x128 .f32 :=
  result (totRow X L 0) (totRow X L 1) (totRow X L 2) (totRow X L 3)

/-- The result's block never moves. -/
theorem index3 : ∀ t : Fin cfg0.N, win0_3.index t = ![0, 0] :=
  (by decide +kernel : ∀ t : Fin grid0.N, _)

/-- The written block after the whole grid. -/
theorem arr_out (c : Dev nD) : (dats m 0 c).arrAt 3 (cfgs 0).N = lanes (Xin m c) (Lin m c) := by
  refine (dats m 0 c).arrAt_eq_of_covers 3 _ (by decide +kernel) fun t hf y => ?_
  blk_simp
  rw [after0_3]
  have h1 : t.val % 32 = 31 := (flush0_3 t).mp hf
  rw [out_last m c t h1]
  blk_ext [lanes, index3 t]

/-- The kernel's run: the result is lane 0 of what the last point writes. -/
theorem value_run (g : Dev nD → PrngReg) :
    θ_run (defs (F := Ideal)) (onTc (τ := τ) (main (F := Ideal))) ⟨m, fun _ => 0, g⟩ (fun r => ∀ c : Dev nD,
      r.2.mem ((c.tc : Thread nD τ).loc main_v4) = (fun _ => lanes (Xin m c) (Lin m c) (ix2 0 0))
      ∧ r.2.mem ((c.tc : Thread nD τ).loc main_arg0) = m ((c.tc : Thread nD τ).loc main_arg0)
      ∧ r.2.mem ((c.tc : Thread nD τ).loc main_arg1) = m ((c.tc : Thread nD τ).loc main_arg1)) := by
  run_from run_main m g & unchanged m g
  unfold Pipeline.afterTail₀
  have h := (Pipeline.withArrays_arr (cfgs 0).spec (by decide) c (V0 m c) (fun w => (dats m 0 c).arrAt w (cfgs 0).N) 3).trans (arr_out m c)
  generalize Pipeline.withArrays (cfgs 0).spec c (V0 m c) (fun w => (dats m 0 c).arrAt w (cfgs 0).N) = σ at h ⊢
  refine (show _ = shapeCast S_ (extractStridedSlice S1x1 ![0, 0] (σ (Proc.devRef .tc main_v2)) slices_S1x128_S1x1_0_0) shapeCasts_S1x1_S_ from rfl).trans ?_
  rw [show σ (Proc.devRef .tc main_v2) = lanes (Xin m c) (Lin m c) from h]
  funext j
  pointwise

/-- The reference has no semaphores. -/
theorem no_sem : ∀ s : SemLoc Cert.ReferenceIdeal.sig, False := by decide

/-- The reference's frame. -/
theorem ref_frame : Cert.quiescent_ReferenceIdeal (hReferenceIdeal := Cert.ReferenceIdeal.Gen.facts) := fun m g _ =>
  (θ_run _ _ _).mono (fun _ h => ⟨fun c => (h c).2, funext fun s => (no_sem s.2).elim⟩)
    (Cert.ReferenceIdeal.Value.run (F := Ideal) m g)

end Cert.KernelIdeal.Hist

end
-- ==== Proof.Ref.lean ====
module

public import proofs.«01_k».proof.Proof.Spec
public import proofs.«01_k».proof.Proof.Gen.ReferenceIdeal.Run
public import Idealize.ShloMosaic.Lib.Routing.OpsOne

@[expose] public section

set_option maxRecDepth 16384

noncomputable section

namespace Cert.ReferenceIdeal.Hist

open Idealize.ShloMosaic Idealize.ShloMosaic.TcCoe Idealize.SL.Sem
open Cert.ReferenceIdeal Cert.ReferenceIdeal.Gen Cert.ReferenceIdeal.Value
open Cert.Hist (nrm sim bin)
open scoped BigOperators

/-! ## The reference's stages -/

/-- The normalised rows. -/
def normed (A : FVec Ideal S4096x128 .f32) : FVec Ideal S4096x128 .f32 :=
  Host.divf A (broadcastInDim S4096x128 ![0, 1] bcast_S4096x1_S4096x128_0_1 (maximumf (Host.sqrt (broadcastInDim S4096x1 ![0] bcast_S4096_S4096x1_0
    (Host.reduceAdd (mulf A A) (constant S_ .f32 0x00000000#32) reducesTo_S4096x128_S4096_d1 h_S_))) (broadcastInDim S4096x1 ![] bcast_S_S4096x1 (constant S_ .f32 0x2B8CBCCC#32))))

/-- The products of all pairs of rows. -/
def sims (A : FVec Ideal S4096x128 .f32) : FVec Ideal S4096x4096 .f32 :=
  Host.dotGeneral dot_S4096x128_S128x4096_S4096x4096_1_0_0_1_n_n none (normed A) (transpose S128x4096 [1, 0] (normed A) transposes_S4096x128_S128x4096_1_0)

/-- Which pairs have equal labels. -/
def same (B : IVec S4096 32) : IVec S4096x4096 1 :=
  cmpi .eq (broadcastInDim S4096x4096 ![0, 1] bcast_S4096x1_S4096x4096_0_1 (broadcastInDim S4096x1 ![0] bcast_S4096_S4096x1_0 B))
    (broadcastInDim S4096x4096 ![0, 1] bcast_S1x4096_S4096x4096_0_1 (transpose S1x4096 [1, 0] (broadcastInDim S4096x1 ![0] bcast_S4096_S4096x1_0 B) transposes_S4096x1_S1x4096_1_0))

/-- The weights of the pairs with equal labels, the diagonal left out. -/
def wpos (B : IVec S4096 32) : FVec Ideal S4096x4096 .f32 :=
  subf (uitofp .f32 (same B)) (uitofp .f32 (cmpi .eq (addi (iotaInDim S4096x4096 32 0) (broadcastInDim S4096x4096 ![] bcast_S_S4096x4096 (constantI S_ 32 0#32))) (iotaInDim S4096x4096 32 1)))

/-- The weights of the pairs with different labels. -/
def wneg (B : IVec S4096 32) : FVec Ideal S4096x4096 .f32 := uitofp .f32 (noti (same B))

/-- A square laid out flat. -/
def flat {α : Type} (x : S4096x4096.Idx → α) : S16777216.Idx → α := shapeCast S16777216 x shapeCasts_S4096x4096_S16777216

/-- The bins before a negative one would wrap. -/
def clipped (s : FVec Ideal S16777216 .f32) : IVec S16777216 32 :=
  minsi (broadcastInDim S16777216 ![] bcast_S_S16777216 (id (constantI S_ 32 99#32))) (maxsi (broadcastInDim S16777216 ![] bcast_S_S16777216 (id (constantI S_ 32 0#32)))
    (fptosi 32 (Host.floor (mulf (Host.divf (addf s (broadcastInDim S16777216 ![] bcast_S_S16777216 (constant S_ .f32 0x3F800000#32)))
      (broadcastInDim S16777216 ![] bcast_S_S16777216 (constant S_ .f32 0x40000000#32))) (broadcastInDim S16777216 ![] bcast_S_S16777216 (constant S_ .f32 0x42C80000#32))))))

/-- The bins. -/
def bins (s : FVec Ideal S16777216 .f32) : IVec S16777216 32 :=
  select (cmpi .slt (clipped s) (broadcastInDim S16777216 ![] bcast_S_S16777216 (constantI S_ 32 0#32)))
    (addi (clipped s) (broadcastInDim S16777216 ![] bcast_S_S16777216 (constantI S_ 32 100#32))) (clipped s)

/-- The histogram of weighted bins. -/
def hist (v : IVec S16777216 32) (w : FVec Ideal S16777216 .f32) : FVec Ideal S100 .f32 :=
  Host.scatterAdd scatter_S100_S16777216x1_S16777216_n_0_0_1 (broadcastInDim S100 ![] bcast_S_S100 (constant S_ .f32 0x00000000#32))
    (broadcastInDim S16777216x1 ![0] bcast_S16777216_S16777216x1_0 v) w

/-- A histogram over its sum. -/
def share (h : FVec Ideal S100 .f32) : FVec Ideal S100 .f32 :=
  Host.divf h (broadcastInDim S100 ![] bcast_S_S100 (addf (Host.reduceAdd h (constant S_ .f32 0x00000000#32) reducesTo_S100_S_d0 h_S_) (constant S_ .f32 0x24E69595#32)))

/-- The sum of a flat array. -/
def all (x : FVec Ideal S16777216 .f32) : FVec Ideal S_ .f32 := Host.reduceAdd x (constant S_ .f32 0x00000000#32) reducesTo_S16777216_S_d0 h_S_

/-- The weighted mean. -/
def mean (s w : FVec Ideal S16777216 .f32) : FVec Ideal S_ .f32 := Host.divf (all (mulf s w)) (all w)

/-- The loss from the two shares and the two means. -/
def loss (hp hn : FVec Ideal S100 .f32) (mp mn : FVec Ideal S_ .f32) : FVec Ideal S_ .f32 :=
  addf (Host.reduceAdd (minimumf hp hn) (constant S_ .f32 0x00000000#32) reducesTo_S100_S_d0 h_S_)
    (maximumf (subf (constant S_ .f32 0x3DCCCCCD#32) (subf mp mn)) (constant S_ .f32 0x00000000#32))

/-- The reference's result from the similarities and the two weights. -/
def final (s p n : FVec Ideal S16777216 .f32) : FVec Ideal S_ .f32 :=
  loss (share (hist (bins s) p)) (share (hist (bins s) n)) (mean s p) (mean s n)

/-- The reference's composed term is these stages. -/
theorem res_eq (m : (ℓ : Loc nD τ sig) → Buf (Elt Ideal) ℓ) (c : Dev nD) :
    res_main_v71 m c = final (flat (sims (m ((c.tc : Thread nD τ).loc main_arg0)))) (flat (wpos (m ((c.tc : Thread nD τ).loc main_arg1))))
      (flat (wneg (m ((c.tc : Thread nD τ).loc main_arg1)))) := by
  unfold res_main_v71
  rfl

/-- A normalised entry. -/
theorem normed_apply (A : FVec Ideal S4096x128 .f32) (i : Fin 4096) (k : Fin 128) : normed A (ix2 i k) = nrm (fun i k => A (ix2 i k)) i k := by
  unfold normed nrm
  pointwise

/-- A pair's similarity. -/
theorem sims_apply (A : FVec Ideal S4096x128 .f32) (i j : Fin 4096) : sims A (ix2 i j) = sim (fun i k => A (ix2 i k)) i j := by
  unfold sims sim
  pointwise
  simp only [normed_apply]

/-- A bit read as a float. -/
theorem bit_float {w : Nat} (x y : BitVec w) : FloatOps.uitofp (F := Ideal) FTy.f32 (IntOp.cmpi .eq x y) = (if x = y then 1 else 0 : EReal) := by
  show (((IntOp.cmpi .eq x y).toNat : ℝ) : EReal) = _
  by_cases h : x = y
  · simp [IntOp.cmpi, h]
  · have hb : (x == y) = false := by simp [h]
    simp [IntOp.cmpi, h, hb]

/-- The opposite of a bit read as a float. -/
theorem not_bit_float {w : Nat} (x y : BitVec w) : FloatOps.uitofp (F := Ideal) FTy.f32 (~~~IntOp.cmpi .eq x y) = (if x = y then 0 else 1 : EReal) := by
  show (((~~~IntOp.cmpi .eq x y).toNat : ℝ) : EReal) = _
  by_cases h : x = y
  · simp [IntOp.cmpi, h]
  · have hb : (x == y) = false := by simp [h]
    simp [IntOp.cmpi, h, hb]

/-- A pair's weight among the equal labels. -/
theorem wpos_apply (B : IVec S4096 32) (i j : Fin 4096) :
    wpos B (ix2 i j) = (if B (ix1 i) = B (ix1 j) then 1 else 0 : EReal) - (if i = j then 1 else 0) := by
  unfold wpos same
  pointwise
  rw [bit_float, bit_float]
  congr 1
  refine if_congr ?_ rfl rfl
  show BitVec.ofNat 32 i.val + 0#32 = BitVec.ofNat 32 j.val ↔ _
  rw [Fin.ext_iff, BitVec.add_zero]
  constructor
  · intro h
    have := congrArg BitVec.toNat h
    simp only [BitVec.toNat_ofNat] at this
    omega
  · intro h; rw [h]

/-- A pair's weight among the different labels. -/
theorem wneg_apply (B : IVec S4096 32) (i j : Fin 4096) :
    wneg B (ix2 i j) = (if B (ix1 i) = B (ix1 j) then 0 else 1 : EReal) := by
  unfold wneg same
  pointwise
  rw [not_bit_float]

/-- A clipped bin as the reference computes it. -/
def clip (s : EReal) : BitVec 32 :=
  IntOp.minsi 99#32 (IntOp.maxsi 0#32 (Ideal.fptosi 32 (Ideal.liftRound Int.floor
    (Ideal.div (s + 1) (Ideal.ofBits .f32 0x40000000#32) * Ideal.ofBits .f32 0x42C80000#32))))

/-- A clipped bin is one of the hundred. -/
theorem clip_range (s : EReal) : 0 ≤ (clip s).toInt ∧ (clip s).toInt < 100 := by
  unfold clip
  generalize Ideal.fptosi 32 _ = v
  have h99 : (99#32 : BitVec 32).toInt = 99 := rfl
  have h0 : (0#32 : BitVec 32).toInt = 0 := rfl
  simp only [IntOp.minsi, IntOp.maxsi, BitVec.slt, decide_eq_true_eq]
  split_ifs <;> omega

/-- A bin. -/
theorem bins_apply (s : FVec Ideal S16777216 .f32) (k : Fin 16777216) : bins s (ix1 k) = clip (s (ix1 k)) := by
  unfold bins clipped
  pointwise
  show Scalar.select (IntOp.cmpi .slt (clip (s (ix1 k))) 0#32) _ _ = _
  have h := (clip_range (s (ix1 k))).1
  have h0 : (0#32 : BitVec 32).toInt = 0 := rfl
  have hs : IntOp.cmpi .slt (clip (s (ix1 k))) 0#32 = 0#1 := by
    have : ¬(clip (s (ix1 k))).toInt < 0 := by omega
    simp [IntOp.cmpi, BitVec.slt, h0, this]
  rw [hs]
  rfl

/-- The sum of a flat array. -/
theorem all_apply (x : FVec Ideal S16777216 .f32) : all x ix0 = ∑ k : Fin 16777216, x (ix1 k) := by
  unfold all
  pointwise

/-- A share. -/
theorem share_apply (h : FVec Ideal S100 .f32) (b : Fin 100) :
    share h (ix1 b) = Ideal.div (h (ix1 b)) ((∑ k : Fin 100, h (ix1 k)) + Ideal.ofBits .f32 0x24E69595#32) := by
  unfold share
  pointwise

/-- The loss. -/
theorem loss_apply (hp hn : FVec Ideal S100 .f32) (mp mn : FVec Ideal S_ .f32) :
    loss hp hn mp mn ix0 = (∑ b : Fin 100, min (hp (ix1 b)) (hn (ix1 b)))
      + max (Ideal.ofBits .f32 0x3DCCCCCD#32 - (mp ix0 - mn ix0)) 0 := by
  unfold loss
  pointwise

/-- Which bin an update lands in. -/
theorem lands {N B : Nat} (d : ScatterDims ⟨1, ![B]⟩ ⟨2, ![N, 1]⟩ ⟨1, ![N]⟩) (hi : d.insertedWindowDims = [0]) (hs : d.scatterDimsToOperandDims = [0])
    (hv : d.indexVectorDim = 1) (idx : IVec ⟨2, ![N, 1]⟩ 32) (k : Fin N) (b : Fin B) :
    d.resultIdx? (ix1 k) idx = some (ix1 b) ↔ (idx (ix2 k 0)).toInt = b.val := by
  have hm : (0 : Fin 1) ∈ d.scatterDimsToOperandDims := by rw [hs]; exact List.mem_singleton.2 rfl
  have hw : d.window (ix1 k) 0 = 0 := by
    unfold ScatterDims.window
    exact dif_neg fun h => (of_decide_eq_true (List.mem_filter.1 h).2) (by rw [hi]; exact List.mem_singleton.2 rfl)
  have hst : d.start (ix1 k) idx 0 = (idx (ix2 k 0)).toInt := by
    unfold ScatterDims.start
    rw [dif_pos hm]
    refine congrArg (fun q => (idx q).toInt) ?_
    funext a
    match a with
    | ⟨0, _⟩ =>
      unfold ScatterDims.siIdx
      rw [dif_neg (by rw [hv]; exact Nat.zero_ne_one)]
      apply Fin.ext
      unfold ScatterDims.siCoord
      exact congrArg (fun q : Fin 1 => ((ix1 k : (⟨1, ![N]⟩ : Shape).Idx) q).val) (Subsingleton.elim _ 0)
    | ⟨1, _⟩ => exact Subsingleton.elim (α := Fin 1) _ _
  refine (Routing.resultIdx?_ix1 d (ix1 k) idx b).trans ?_
  rw [hst, hw]
  simp

/-- A scatter of single updates adds to each bin the updates that land in it. -/
theorem scatter_bins {N B : Nat} (d : ScatterDims ⟨1, ![B]⟩ ⟨2, ![N, 1]⟩ ⟨1, ![N]⟩) (hi : d.insertedWindowDims = [0]) (hs : d.scatterDimsToOperandDims = [0])
    (hv : d.indexVectorDim = 1) (x : FVec Ideal ⟨1, ![B]⟩ .f32) (idx : IVec ⟨2, ![N, 1]⟩ 32) (w : FVec Ideal ⟨1, ![N]⟩ .f32) (b : Fin B) :
    Host.scatterAdd d x idx w (ix1 b) = x (ix1 b) + ∑ k : Fin N, if (idx (ix2 k 0)).toInt = b.val then w (ix1 k) else 0 := by
  unfold Host.scatterAdd
  rw [Ideal.hostScatterAdd_def]
  unfold Ideal.hostScatterAdd
  rw [Finset.sum_filter, sum_idx1]
  refine congrArg (x (ix1 b) + ·) (Finset.sum_congr rfl fun k _ => ?_)
  exact if_congr (lands d hi hs hv idx k b) rfl rfl

/-- A histogram's bin is the sum of the weights that land in it. -/
theorem hist_apply (v : IVec S16777216 32) (w : FVec Ideal S16777216 .f32) (b : Fin 100) :
    hist v w (ix1 b) = ∑ k : Fin 16777216, if (v (ix1 k)).toInt = b.val then w (ix1 k) else 0 := by
  unfold hist
  refine (scatter_bins scatter_S100_S16777216x1_S16777216_n_0_0_1 rfl rfl rfl _ _ w b).trans ?_
  pointwise
/-- A sum over the flat square is a sum over its rows and columns. -/
theorem sum_flat (f : S4096x4096.Idx → EReal) :
    ∑ k : Fin 16777216, f (Shape.reshapeEquiv shapeCasts_S4096x4096_S16777216 (ix1 k)) = ∑ i : Fin 4096, ∑ j : Fin 4096, f (ix2 i j) := by
  rw [← sum_idx2 (n0 := 4096) (n1 := 4096) f, ← sum_idx1 (n0 := 16777216) (fun y => f (Shape.reshapeEquiv shapeCasts_S4096x4096_S16777216 y))]
  exact Equiv.sum_comp (Shape.reshapeEquiv shapeCasts_S4096x4096_S16777216) f

/-- A flat entry is the square's at the matching place. -/
theorem flat_apply {α : Type} (x : S4096x4096.Idx → α) (k : Fin 16777216) :
    flat x (ix1 k) = x (Shape.reshapeEquiv shapeCasts_S4096x4096_S16777216 (ix1 k)) := rfl

/-- The reference's sum over all pairs of a weighted quantity. -/
theorem all_mul (A B : FVec Ideal S4096x4096 .f32) : all (mulf (flat A) (flat B)) ix0 = ∑ i : Fin 4096, ∑ j : Fin 4096, A (ix2 i j) * B (ix2 i j) :=
  (all_apply _).trans (sum_flat fun y => A y * B y)

/-- The reference's sum over all pairs. -/
theorem all_flat (A : FVec Ideal S4096x4096 .f32) : all (flat A) ix0 = ∑ i : Fin 4096, ∑ j : Fin 4096, A (ix2 i j) :=
  (all_apply _).trans (sum_flat A)

/-- An entry of a quotient. -/
theorem quotient_apply {s : Shape} (x y : FVec Ideal s .f32) (i : s.Idx) : Host.divf x y i = Ideal.div (x i) (y i) := by
  pointwise

/-- A weighted mean is the weighted sum over the sum of the weights. -/
theorem mean_div (v w : FVec Ideal S16777216 .f32) : mean v w ix0 = Ideal.div (all (mulf v w) ix0) (all w ix0) := by
  unfold mean
  exact quotient_apply _ _ _

/-- A weighted mean over all pairs. -/
theorem mean_apply (A B : FVec Ideal S4096x4096 .f32) : mean (flat A) (flat B) ix0
    = Ideal.div (∑ i : Fin 4096, ∑ j : Fin 4096, A (ix2 i j) * B (ix2 i j)) (∑ i : Fin 4096, ∑ j : Fin 4096, B (ix2 i j)) := by
  exact (mean_div _ _).trans (congrArg₂ Ideal.div (all_mul A B) (all_flat B))

/-- A sum over the flat square of a quantity read from two squares. -/
theorem sum_pair (G : EReal → EReal → EReal) (A B : FVec Ideal S4096x4096 .f32) :
    ∑ k : Fin 16777216, G (flat A (ix1 k)) (flat B (ix1 k)) = ∑ i : Fin 4096, ∑ j : Fin 4096, G (A (ix2 i j)) (B (ix2 i j)) :=
  sum_flat fun y => G (A y) (B y)

/-- One update of a histogram. -/
theorem update_apply (v w : FVec Ideal S16777216 .f32) (b : Fin 100) (k : Fin 16777216) :
    (if (bins v (ix1 k)).toInt = b.val then w (ix1 k) else 0) = (if (clip (v (ix1 k))).toInt = b.val then w (ix1 k) else 0) :=
  congrArg (fun q : BitVec 32 => if q.toInt = b.val then w (ix1 k) else (0 : EReal)) (bins_apply v k)

/-- A histogram over all pairs. -/
theorem hist_flat (A B : FVec Ideal S4096x4096 .f32) (b : Fin 100) : hist (bins (flat A)) (flat B) (ix1 b)
    = ∑ i : Fin 4096, ∑ j : Fin 4096, if (clip (A (ix2 i j))).toInt = b.val then B (ix2 i j) else 0 :=
  ((hist_apply _ _ b).trans (Finset.sum_congr rfl fun k _ => update_apply _ _ b k)).trans
    (sum_pair (fun a w => if (clip a).toInt = b.val then w else 0) A B)

end Cert.ReferenceIdeal.Hist

end
-- ==== Proof.Real.lean ====
module

public import proofs.«01_k».proof.Proof.Ref

@[expose] public section

noncomputable section

namespace Cert.Hist

open Idealize.ShloMosaic
open Cert.ReferenceIdeal.Hist (clip clip_range)
open scoped BigOperators

/-! ## The similarities are real and the two bins agree -/

/-- The length's lower bound is a positive real. -/
theorem tiny_pos : ∃ e : ℝ, 0 < e ∧ Ideal.ofBits .f32 0x2B8CBCCC#32 = (e : EReal) := by
  refine ⟨9223372 / 2 ^ 63, by norm_num, ?_⟩
  simp [Ideal.ofBits, Ideal.ieee, -EReal.coe_mul]; norm_num

/-- The share's addend is a positive real. -/
theorem eps_pos : ∃ e : ℝ, 0 < e ∧ Ideal.ofBits .f32 0x24E69595#32 = (e : EReal) := by
  refine ⟨15111573 / 2 ^ 77, by norm_num, ?_⟩
  simp [Ideal.ofBits, Ideal.ieee, -EReal.coe_mul]; norm_num

/-- The word of fifty. -/
theorem word_fifty : Ideal.ofBits .f32 0x42480000#32 = ((50 : ℝ) : EReal) := by
  simp [Ideal.ofBits, Ideal.ieee, -EReal.coe_mul]; norm_num

/-- The word of a hundred. -/
theorem word_hundred : Ideal.ofBits .f32 0x42C80000#32 = ((100 : ℝ) : EReal) := by
  simp [Ideal.ofBits, Ideal.ieee, -EReal.coe_mul]; norm_num

/-- The word of two. -/
theorem word_two : Ideal.ofBits .f32 0x40000000#32 = ((2 : ℝ) : EReal) := by
  simp [Ideal.ofBits, Ideal.ieee, -EReal.coe_mul]; norm_num

/-- The word of the number of rows. -/
theorem word_rows : Ideal.ofBits .f32 0x45800000#32 = ((4096 : ℝ) : EReal) := by
  simp [Ideal.ofBits, Ideal.ieee, -EReal.coe_mul]; norm_num

/-- A finite sum of reals, read among the extended reals. -/
theorem coe_sum {ι : Type} [Fintype ι] (f : ι → ℝ) : ((∑ i, f i : ℝ) : EReal) = ∑ i, (f i : EReal) :=
  map_sum (⟨⟨Real.toEReal, EReal.coe_zero⟩, EReal.coe_add⟩ : ℝ →+ EReal) f Finset.univ

/-- A square is not negative. -/
theorem sq_nonneg (x : EReal) : 0 ≤ x * x := by
  induction x with
  | bot => simp
  | top => simp
  | coe r => exact_mod_cast mul_self_nonneg r

/-- A normalised entry is real, whatever the row. -/
theorem nrm_real (X : Fin 4096 → Fin 128 → EReal) (i : Fin 4096) (k : Fin 128) : ∃ r : ℝ, nrm X i k = (r : EReal) := by
  obtain ⟨e, he, hw⟩ := tiny_pos
  unfold nrm
  rw [hw]
  by_cases h : ∀ q, X i q ≠ ⊤ ∧ X i q ≠ ⊥
  · choose x hx using fun q => (⟨(X i q).toReal, (EReal.coe_toReal (h q).1 (h q).2).symm⟩ : ∃ r : ℝ, X i q = (r : EReal))
    simp only [hx]
    have hs : (∑ q, (x q : EReal) * (x q : EReal)) = ((∑ q, x q * x q : ℝ) : EReal) := by
      rw [coe_sum]
      simp only [EReal.coe_mul]
    have h0 : 0 ≤ ∑ q, x q * x q := Finset.sum_nonneg fun q _ => mul_self_nonneg _
    rw [hs, Ideal.sqrt_coe, if_neg (not_lt.2 h0), ← EReal.coe_strictMono.monotone.map_max,
      Ideal.div_coe (ne_of_gt (lt_of_lt_of_le he (le_max_right _ _))), ← EReal.coe_mul]
    exact ⟨_, rfl⟩
  · push Not at h
    obtain ⟨q, hq⟩ := h
    have hqq : X i q * X i q = ⊤ := by
      by_cases ht : X i q = ⊤
      · rw [ht]; rfl
      · rw [hq ht]; rfl
    have hs : (∑ q, X i q * X i q) = ⊤ :=
      top_le_iff.1 (hqq ▸ Finset.single_le_sum (f := fun q => X i q * X i q) (fun p _ => sq_nonneg (X i p)) (Finset.mem_univ q))
    rw [hs, Ideal.sqrt_top, max_eq_left le_top]
    refine ⟨0, ?_⟩
    unfold Ideal.div
    simp

/-- Every similarity is real. -/
theorem sim_real (X : Fin 4096 → Fin 128 → EReal) : ∃ s : Fin 4096 → Fin 4096 → ℝ, ∀ i j, sim X i j = (s i j : EReal) := by
  choose r hr using nrm_real X
  refine ⟨fun i j => ∑ k, r i k * r j k, fun i j => ?_⟩
  unfold sim
  rw [coe_sum]
  simp only [hr, EReal.coe_mul]

/-- A word clipped to the hundred bins, from an integer that is not positive, is the first bin. -/
theorem clip_neg (t : ℤ) (ht : t ≤ 0) :
    IntOp.minsi 99#32 (IntOp.maxsi 0#32 (BitVec.ofInt 32 (max (-((2 ^ (32 - 1) : Nat) : ℤ)) (min (((2 ^ (32 - 1) : Nat) : ℤ) - 1) t)))) = 0#32 := by
  have h : IntOp.maxsi 0#32 (BitVec.ofInt 32 (max (-((2 ^ (32 - 1) : Nat) : ℤ)) (min (((2 ^ (32 - 1) : Nat) : ℤ) - 1) t))) = 0#32 := by
    rcases lt_or_eq_of_le ht with h | h
    · have hb : (BitVec.ofInt 32 (max (-((2 ^ (32 - 1) : Nat) : ℤ)) (min (((2 ^ (32 - 1) : Nat) : ℤ) - 1) t))).toInt < 0 := by
        rw [BitVec.toInt_ofInt, Int.bmod_eq_of_le] <;> omega
      have h0 : (0#32 : BitVec 32).toInt = 0 := rfl
      simp only [IntOp.maxsi, BitVec.slt, decide_eq_true_eq, h0]
      exact if_pos hb
    · subst h; rfl
  rw [h]; rfl

/-- The kernel's bin of a real similarity is the reference's. -/
theorem bin_clip (s : ℝ) : bin (s : EReal) = clip (s : EReal) := by
  unfold bin clip
  rw [word_fifty, word_hundred, word_two]
  have e1 : ((s : EReal) + 1) * ((50 : ℝ) : EReal) = (((s + 1) * 50 : ℝ) : EReal) := by
    rw [EReal.coe_mul, EReal.coe_add, EReal.coe_one]
  have e2 : Ideal.div ((s : EReal) + 1) ((2 : ℝ) : EReal) * ((100 : ℝ) : EReal) = (((s + 1) * 50 : ℝ) : EReal) := by
    rw [Ideal.div_coe two_ne_zero, ← EReal.coe_one, ← EReal.coe_add, ← EReal.coe_mul, ← EReal.coe_mul]
    congr 1
    ring
  rw [e1, e2]
  generalize (s + 1) * 50 = y
  rw [Ideal.liftRound_coe]
  unfold Ideal.fptosi
  rw [Ideal.toIntClamped_coe, Ideal.toIntClamped_coe, Int.floor_intCast, Int.ceil_intCast, ite_self]
  by_cases hy : 0 ≤ y
  · rw [if_pos hy]
  · rw [if_neg hy]
    have h1 : ⌈y⌉ ≤ 0 := Int.ceil_le.2 (by push_cast; linarith)
    have h2 : ⌊y⌋ ≤ 0 := Int.floor_nonpos (by linarith)
    exact (clip_neg _ h1).trans (clip_neg _ h2).symm

/-- A bin is the one a lane names exactly when its number is the lane's. -/
theorem clip_eq (s : EReal) (b : Nat) (hb : b < 100) : clip s = BitVec.ofNat 32 b ↔ (clip s).toInt = b := by
  have hn : (BitVec.ofNat 32 b).toInt = b := by
    simp only [BitVec.toInt_eq_toNat_cond, BitVec.toNat_ofNat]
    split_ifs <;> omega
  rw [← BitVec.toInt_inj, hn]

/-- The kernel's mark for a pair that is not counted names no bin. -/
theorem mark_ne (b : Nat) (hb : b < 100) : (255#32 : BitVec 32) ≠ BitVec.ofNat 32 b := fun h => by
  have := congrArg BitVec.toNat h
  simp only [BitVec.toNat_ofNat] at this
  omega

end Cert.Hist

end
-- ==== Proof.Closed.lean ====
module

public import proofs.«01_k».proof.Proof.Out
public import proofs.«01_k».proof.Proof.Real

@[expose] public section

set_option maxRecDepth 16384

noncomputable section

namespace Cert.KernelIdeal.Hist

open Idealize.ShloMosaic Idealize.ShloMosaic.TcCoe Idealize.SL.Sem
open Cert.KernelIdeal Cert.KernelIdeal.Gen
open Cert.Hist (nrm sim bin)
open scoped BigOperators

/-! ## The kernel's loss in closed form -/

/-- The sum of one named lane's value over the lanes is that lane's value. -/
theorem sum_lane (f : Fin 128 → EReal) (n : Nat) (hn : n < 128) :
    ∑ l : Fin 128, Scalar.select (IntOp.cmpi .eq (BitVec.ofNat 32 l.val) (BitVec.ofNat 32 n)) (f l) 0 = f ⟨n, hn⟩ := by
  simp only [select_eq, lane_word _ n hn]
  rw [Finset.sum_congr rfl fun l _ => (if_congr (show l.val = n ↔ l = ⟨n, hn⟩ from ⟨fun h => Fin.ext h, fun h => congrArg Fin.val h⟩) rfl rfl :
    (if l.val = n then f l else (0 : EReal)) = if l = ⟨n, hn⟩ then f l else 0)]
  rw [Finset.sum_ite_eq' Finset.univ, if_pos (Finset.mem_univ _)]

/-- The overlap of the two shares. -/
theorem pay3_apply (r0 r1 r2 : Vec Ideal S1x128 .f32) : k0_pay3 r0 r1 r2 = ∑ l : Fin 128,
    min (Ideal.div (r1 (ix2 0 l) - r2 (ix2 0 l)) ((∑ l : Fin 128, (r1 (ix2 0 l) - r2 (ix2 0 l))) + Ideal.ofBits .f32 0x24E69595#32))
      (Ideal.div (r0 (ix2 0 l) - r1 (ix2 0 l)) ((∑ l : Fin 128, (r0 (ix2 0 l) - r1 (ix2 0 l))) + Ideal.ofBits .f32 0x24E69595#32)) := by
  unfold k0_pay3
  pointwise
  simp only [Fin.sum_univ_one]

/-- The kernel's pick of the lane of all similarities. -/
theorem pay4_apply (r3 : Vec Ideal S1x128 .f32) : k0_pay4 lane r3 = r3 (ix2 0 0) := by
  unfold k0_pay4 lane
  pointwise
  simp only [Fin.sum_univ_one]
  exact sum_lane (fun l => r3 (ix2 0 l)) 0 (by decide)

/-- The kernel's pick of the lane of the similarities of equal labels. -/
theorem pay5_apply (r3 : Vec Ideal S1x128 .f32) : k0_pay5 lane r3 = r3 (ix2 0 1) := by
  unfold k0_pay5 lane
  pointwise
  simp only [Fin.sum_univ_one]
  exact sum_lane (fun l => r3 (ix2 0 l)) 1 (by decide)

/-- The written loss: the overlap plus the margin's excess over the difference of the two means. -/
theorem pay2_apply (r3 : Vec Ideal S1x128 .f32) (a p q : EReal) : k0_pay2 lane a r3 p q (ix2 0 0) =
    a + max (Ideal.ofBits .f32 0x3DCCCCCD#32 - (Ideal.div (q - r3 (ix2 0 3)) (r3 (ix2 0 2) - Ideal.ofBits .f32 0x45800000#32)
      - Ideal.div (p - q) (Ideal.ofBits .f32 0x45800000#32 * Ideal.ofBits .f32 0x45800000#32 - r3 (ix2 0 2)))) 0 := by
  have h2 := sum_lane (fun l => r3 (ix2 0 l)) 2 (by decide)
  have h3 := sum_lane (fun l => r3 (ix2 0 l)) 3 (by decide)
  unfold k0_pay2 lane
  pointwise
  simp only [Fin.sum_univ_one]
  rw [h2, h3]
  rfl

end Cert.KernelIdeal.Hist

end
-- ==== Proof.Equation.lean ====
module

public import proofs.«01_k».proof.Proof.Closed

@[expose] public section

set_option maxRecDepth 16384

noncomputable section

namespace Cert.Hist

open Idealize.ShloMosaic Idealize.ShloMosaic.TcCoe Idealize.SL.Sem
open Cert.ReferenceIdeal.Hist
open Cert.KernelIdeal.Hist (tot totRow amt lanes)
open Cert.ReferenceIdeal (S4096x4096 S4096x128 S4096)
open scoped BigOperators

/-! ## The kernel's loss is the reference's -/

/-- A real table over all pairs of rows, summed. -/
def pairs (f : Fin 4096 → Fin 4096 → ℝ) : ℝ := ∑ i, ∑ j, f i j

/-- The weight `W` of the pairs whose similarity falls in bin `b`. -/
def hits (s W : Fin 4096 → Fin 4096 → ℝ) (b : Nat) : ℝ :=
  pairs fun i j => if (clip (s i j : EReal)).toInt = b then W i j else 0

/-- One for two rows of the same label. -/
def alike (L : Fin 4096 → BitVec 32) (i j : Fin 4096) : ℝ := if L i = L j then 1 else 0

/-- One for a row paired with itself. -/
def self (i j : Fin 4096) : ℝ := if i = j then 1 else 0

/-- A sum over all pairs, read among the extended reals. -/
theorem coe_pairs (f : Fin 4096 → Fin 4096 → ℝ) : (pairs f : EReal) = ∑ i, ∑ j, (f i j : EReal) := by
  unfold pairs
  rw [coe_sum]
  exact Finset.sum_congr rfl fun i _ => coe_sum _

/-- The difference of two sums over all pairs. -/
theorem pairs_sub (f g : Fin 4096 → Fin 4096 → ℝ) : pairs f - pairs g = pairs fun i j => f i j - g i j := by
  unfold pairs
  simp only [Finset.sum_sub_distrib]

/-- A sum over the pairs of a row with itself. -/
theorem pairs_self (f : Fin 4096 → Fin 4096 → ℝ) : pairs (fun i j => if i = j then f i j else 0) = ∑ i, f i i := by
  unfold pairs
  exact Finset.sum_congr rfl fun i _ => (Finset.sum_ite_eq _ _ _).trans (if_pos (Finset.mem_univ _))

/-- The difference of two histograms. -/
theorem hits_sub (s W U : Fin 4096 → Fin 4096 → ℝ) (b : Nat) : hits s W b - hits s U b = hits s (fun i j => W i j - U i j) b := by
  unfold hits
  rw [pairs_sub]
  refine congrArg pairs ?_
  funext i j
  split_ifs
  · rfl
  · exact sub_zero 0

/-- Weights that are not negative give a histogram that is not negative. -/
theorem hits_nonneg (s W : Fin 4096 → Fin 4096 → ℝ) (h : ∀ i j, 0 ≤ W i j) (b : Nat) : 0 ≤ hits s W b := by
  unfold hits pairs
  exact Finset.sum_nonneg fun i _ => Finset.sum_nonneg fun j _ => by
    beta_reduce
    split_ifs
    · exact h i j
    · exact le_refl 0

variable (X : Fin 4096 → Fin 128 → EReal) (L : Fin 4096 → BitVec 32) (s : Fin 4096 → Fin 4096 → ℝ) (hs : ∀ i j, sim X i j = (s i j : EReal))

/-- The weight of a pair of equal labels, the row itself left out. -/
def pos (i j : Fin 4096) : ℝ := alike L i j - self i j

/-- The weight of a pair of different labels. -/
def neg (i j : Fin 4096) : ℝ := 1 - alike L i j

/-- The weights of the pairs of equal labels are not negative. -/
theorem pos_nonneg (i j : Fin 4096) : 0 ≤ pos L i j := by
  unfold pos alike self
  by_cases h : i = j
  · subst h; simp
  · rw [if_neg h]; split_ifs <;> norm_num

/-- The weights of the pairs of different labels are not negative. -/
theorem neg_nonneg (i j : Fin 4096) : 0 ≤ neg L i j := by
  unfold neg alike
  split_ifs <;> norm_num

include hs

/-- A bin's lane test. -/
theorem bin_lane (i j : Fin 4096) (b : Nat) (hb : b < 100) : bin (sim X i j) = BitVec.ofNat 32 b ↔ (clip (s i j : EReal)).toInt = b := by
  rw [hs, bin_clip, clip_eq _ b hb]

/-- The kernel's first row counts all pairs by bin. -/
theorem tot0 (l : Fin 128) (h : l.val < 100) : tot X L 0 l = (hits s (fun _ _ => 1) l.val : EReal) := by
  unfold hits
  rw [coe_pairs]
  refine Finset.sum_congr rfl fun p _ => ?_
  unfold amt
  rw [if_pos (by decide), if_pos h]
  refine Finset.sum_congr rfl fun q _ => ?_
  rw [if_congr (bin_lane X s hs p q l.val h) rfl rfl]
  split_ifs <;> simp

/-- The second row counts the pairs of equal labels by bin. -/
theorem tot1 (l : Fin 128) (h : l.val < 100) : tot X L 1 l = (hits s (alike L) l.val : EReal) := by
  unfold hits alike
  rw [coe_pairs]
  refine Finset.sum_congr rfl fun p _ => ?_
  unfold amt
  rw [if_neg (by decide), if_pos (by decide), if_pos h]
  refine Finset.sum_congr rfl fun q _ => ?_
  by_cases e : L p = L q
  · rw [if_pos e, if_pos e, if_congr (bin_lane X s hs p q l.val h) rfl rfl]
    split_ifs <;> simp
  · rw [if_neg e, if_neg e, if_neg (mark_ne _ h), ite_self, EReal.coe_zero]

/-- The third row counts the rows paired with themselves by bin. -/
theorem tot2 (l : Fin 128) (h : l.val < 100) : tot X L 2 l = (hits s self l.val : EReal) := by
  have e : hits s self l.val = ∑ i, if (clip (s i i : EReal)).toInt = l.val then (1 : ℝ) else 0 := by
    rw [← pairs_self fun i j => if (clip (s i j : EReal)).toInt = l.val then (1 : ℝ) else 0]
    unfold hits self
    refine congrArg pairs ?_
    funext i j
    by_cases hij : i = j <;> simp [hij]
  rw [e, coe_sum]
  refine Finset.sum_congr rfl fun p _ => ?_
  unfold amt
  rw [if_neg (by decide), if_neg (by decide), if_pos (by decide), if_pos h, if_congr (bin_lane X s hs p p l.val h) rfl rfl]
  split_ifs <;> simp

omit hs in
/-- Past the hundredth lane nothing is counted. -/
theorem tot_out (r : Fin 8) (hr : r.val < 3) (l : Fin 128) (h : ¬l.val < 100) : tot X L r l = 0 := by
  refine Finset.sum_eq_zero fun p _ => ?_
  unfold amt
  simp only [if_neg h]
  rcases (by omega : r.val = 0 ∨ r.val = 1 ∨ r.val = 2) with e | e | e <;> simp [e]

/-- The fourth row's lane of all similarities. -/
theorem tot30 : tot X L 3 0 = (pairs s : EReal) := by
  rw [coe_pairs]
  refine Finset.sum_congr rfl fun p _ => ?_
  simp only [amt, hs]
  simp

/-- The fourth row's lane of the similarities of equal labels. -/
theorem tot31 : tot X L 3 1 = (pairs (fun i j => s i j * alike L i j) : EReal) := by
  rw [coe_pairs]
  refine Finset.sum_congr rfl fun p _ => ?_
  simp only [amt, hs, alike]
  simp
  refine Finset.sum_congr rfl fun q _ => ?_
  split_ifs <;> simp

omit hs in
/-- The fourth row's count of the pairs of equal labels. -/
theorem tot32 : tot X L 3 2 = (pairs (alike L) : EReal) := by
  rw [coe_pairs]
  refine Finset.sum_congr rfl fun p _ => ?_
  simp only [amt, alike]
  simp [-Finset.sum_boole]
  refine Finset.sum_congr rfl fun q _ => ?_
  split_ifs <;> simp

/-- The fourth row's lane of the similarities of the rows with themselves. -/
theorem tot33 : tot X L 3 3 = (pairs (fun i j => s i j * self i j) : EReal) := by
  have e : pairs (fun i j => s i j * self i j) = ∑ i, s i i := by
    rw [← pairs_self s]
    refine congrArg pairs ?_
    funext i j
    unfold self
    split_ifs <;> simp
  rw [e, coe_sum]
  refine Finset.sum_congr rfl fun p _ => ?_
  simp only [amt, hs]
  simp

omit hs in
/-- A sum over the lanes of values that vanish past the hundredth is the sum over the hundred. -/
theorem sum_hundred (f : Fin 128 → EReal) (g : Fin 100 → EReal) (h : ∀ (l : Fin 128) (hl : l.val < 100), f l = g ⟨l.val, hl⟩)
    (h0 : ∀ l : Fin 128, ¬l.val < 100 → f l = 0) : ∑ l, f l = ∑ b, g b := by
  rw [show (∑ l, f l) = ∑ b : Fin 100, f (Fin.castAdd 28 b) + ∑ b : Fin 28, f (Fin.natAdd 100 b) from Fin.sum_univ_add (a := 100) (b := 28) f,
    Finset.sum_eq_zero (s := Finset.univ) (f := fun b : Fin 28 => f (Fin.natAdd 100 b)) fun b _ => h0 _ (by simp), add_zero]
  exact Finset.sum_congr rfl fun b _ => h _ b.isLt

omit hs in
/-- A share of nothing is nothing. -/
theorem share_zero (t e : ℝ) (ht : 0 ≤ t) (he : 0 < e) : Ideal.div 0 ((t : EReal) + (e : EReal)) = 0 := by
  rw [← EReal.coe_add, Ideal.div_coe (by linarith), zero_mul]

/-- The kernel's loss, from the two histograms and the two weighted means. -/
theorem kernel_loss : lanes X L (ix2 0 0) =
    (∑ b : Fin 100, min (Ideal.div (hits s (pos L) b : EReal) ((∑ b : Fin 100, (hits s (pos L) b : EReal)) + Ideal.ofBits .f32 0x24E69595#32))
      (Ideal.div (hits s (neg L) b : EReal) ((∑ b : Fin 100, (hits s (neg L) b : EReal)) + Ideal.ofBits .f32 0x24E69595#32)))
    + max (Ideal.ofBits .f32 0x3DCCCCCD#32 - (Ideal.div (pairs fun i j => s i j * pos L i j : EReal) (pairs (pos L) : EReal)
      - Ideal.div (pairs fun i j => s i j * neg L i j : EReal) (pairs (neg L) : EReal))) 0 := by
  obtain ⟨e, he, hw⟩ := eps_pos
  have hp (l : Fin 128) (h : l.val < 100) : tot X L 1 l - tot X L 2 l = (hits s (pos L) l.val : EReal) := by
    rw [tot1 X L s hs l h, tot2 X L s hs l h, ← EReal.coe_sub, hits_sub]; rfl
  have hn (l : Fin 128) (h : l.val < 100) : tot X L 0 l - tot X L 1 l = (hits s (neg L) l.val : EReal) := by
    rw [tot0 X L s hs l h, tot1 X L s hs l h, ← EReal.coe_sub, hits_sub]; rfl
  have zp (l : Fin 128) (h : ¬l.val < 100) : tot X L 1 l - tot X L 2 l = 0 := by
    rw [tot_out X L 1 (by decide) l h, tot_out X L 2 (by decide) l h, sub_zero]
  have zn (l : Fin 128) (h : ¬l.val < 100) : tot X L 0 l - tot X L 1 l = 0 := by
    rw [tot_out X L 0 (by decide) l h, tot_out X L 1 (by decide) l h, sub_zero]
  have sp := sum_hundred _ (fun b => (hits s (pos L) b.val : EReal)) hp zp
  have sn := sum_hundred _ (fun b => (hits s (neg L) b.val : EReal)) hn zn
  have e1 : tot X L 3 1 - tot X L 3 3 = (pairs fun i j => s i j * pos L i j : EReal) := by
    rw [tot31 X L s hs, tot33 X L s hs, ← EReal.coe_sub, pairs_sub]
    simp only [pos, mul_sub]
  have e2 : tot X L 3 0 - tot X L 3 1 = (pairs fun i j => s i j * neg L i j : EReal) := by
    rw [tot30 X L s hs, tot31 X L s hs, ← EReal.coe_sub, pairs_sub]
    simp only [neg, mul_sub, mul_one]
  have d1 : pairs self = 4096 := by
    have := pairs_self fun _ _ => 1
    rw [show pairs self = _ from this]
    simp
  have d2 : pairs (fun _ _ => 1) = 4096 * 4096 := by
    unfold pairs
    simp
  have e3 : tot X L 3 2 - Ideal.ofBits .f32 0x45800000#32 = (pairs (pos L) : EReal) := by
    rw [tot32 X L, word_rows, ← EReal.coe_sub, ← d1, pairs_sub]; rfl
  have e4 : Ideal.ofBits .f32 0x45800000#32 * Ideal.ofBits .f32 0x45800000#32 - tot X L 3 2 = (pairs (neg L) : EReal) := by
    rw [tot32 X L, word_rows, ← EReal.coe_mul, ← EReal.coe_sub, ← d2, pairs_sub]; rfl
  have hl : lanes X L (ix2 0 0) = (∑ l : Fin 128,
      min (Ideal.div (tot X L 1 l - tot X L 2 l) ((∑ l : Fin 128, (tot X L 1 l - tot X L 2 l)) + Ideal.ofBits .f32 0x24E69595#32))
        (Ideal.div (tot X L 0 l - tot X L 1 l) ((∑ l : Fin 128, (tot X L 0 l - tot X L 1 l)) + Ideal.ofBits .f32 0x24E69595#32)))
      + max (Ideal.ofBits .f32 0x3DCCCCCD#32 - (Ideal.div (tot X L 3 1 - tot X L 3 3) (tot X L 3 2 - Ideal.ofBits .f32 0x45800000#32)
        - Ideal.div (tot X L 3 0 - tot X L 3 1) (Ideal.ofBits .f32 0x45800000#32 * Ideal.ofBits .f32 0x45800000#32 - tot X L 3 2))) 0 := by
    unfold lanes Cert.KernelIdeal.Hist.result
    rw [Cert.KernelIdeal.Hist.pay2_apply, Cert.KernelIdeal.Hist.pay3_apply, Cert.KernelIdeal.Hist.pay4_apply, Cert.KernelIdeal.Hist.pay5_apply]
    rfl
  rw [hl, e1, e2, e3, e4, sp, sn]
  refine congrArg (· + _) (sum_hundred _ _ (fun l h => ?_) fun l h => ?_)
  · rw [hp l h, hn l h]
  · rw [zp l h, zn l h, hw, ← coe_sum, ← coe_sum, share_zero _ e (Finset.sum_nonneg fun b _ => hits_nonneg s _ (pos_nonneg L) _) he,
      share_zero _ e (Finset.sum_nonneg fun b _ => hits_nonneg s _ (neg_nonneg L) _) he, min_self]

omit hs in
/-- A reference histogram with real similarities and weights. -/
theorem hist_real (A W : FVec Ideal S4096x4096 .f32) (w : Fin 4096 → Fin 4096 → ℝ) (hA : ∀ i j, A (ix2 i j) = (s i j : EReal))
    (hW : ∀ i j, W (ix2 i j) = (w i j : EReal)) (b : Fin 100) : hist (bins (flat A)) (flat W) (ix1 b) = (hits s w b.val : EReal) := by
  rw [hist_flat]
  unfold hits
  rw [coe_pairs]
  refine Finset.sum_congr rfl fun i _ => Finset.sum_congr rfl fun j _ => ?_
  rw [hA, hW]
  split_ifs <;> simp

omit hs in
/-- A reference mean with real similarities and weights. -/
theorem mean_real (A W : FVec Ideal S4096x4096 .f32) (w : Fin 4096 → Fin 4096 → ℝ) (hA : ∀ i j, A (ix2 i j) = (s i j : EReal))
    (hW : ∀ i j, W (ix2 i j) = (w i j : EReal)) : mean (flat A) (flat W) ix0 = Ideal.div (pairs fun i j => s i j * w i j : EReal) (pairs w : EReal) := by
  rw [mean_apply, coe_pairs, coe_pairs]
  simp only [hA, hW, EReal.coe_mul]

omit hs in
/-- The reference's loss, from the two histograms and the two weighted means. -/
theorem final_real (A P N : FVec Ideal S4096x4096 .f32) (p n : Fin 4096 → Fin 4096 → ℝ) (hA : ∀ i j, A (ix2 i j) = (s i j : EReal))
    (hP : ∀ i j, P (ix2 i j) = (p i j : EReal)) (hN : ∀ i j, N (ix2 i j) = (n i j : EReal)) : final (flat A) (flat P) (flat N) ix0 =
    (∑ b : Fin 100, min (Ideal.div (hits s p b : EReal) ((∑ b : Fin 100, (hits s p b : EReal)) + Ideal.ofBits .f32 0x24E69595#32))
      (Ideal.div (hits s n b : EReal) ((∑ b : Fin 100, (hits s n b : EReal)) + Ideal.ofBits .f32 0x24E69595#32)))
    + max (Ideal.ofBits .f32 0x3DCCCCCD#32 - (Ideal.div (pairs fun i j => s i j * p i j : EReal) (pairs p : EReal)
      - Ideal.div (pairs fun i j => s i j * n i j : EReal) (pairs n : EReal))) 0 := by
  unfold final
  rw [loss_apply, mean_real s A P p hA hP, mean_real s A N n hA hN]
  simp only [share_apply, hist_real s A P p hA hP, hist_real s A N n hA hN]

omit hs in
/-- The kernel's loss is the reference's on the same rows and labels. -/
theorem loss_eq (A : FVec Ideal S4096x128 .f32) (B : IVec S4096 32) :
    lanes (fun i k => A (ix2 i k)) (fun i => B (ix1 i)) (ix2 0 0) = final (flat (sims A)) (flat (wpos B)) (flat (wneg B)) ix0 := by
  obtain ⟨s, hs⟩ := sim_real fun i k => A (ix2 i k)
  refine (kernel_loss _ _ s hs).trans (final_real s _ _ _ _ _ (fun i j => (sims_apply A i j).trans (hs i j)) (fun i j => ?_) fun i j => ?_).symm
  · rw [wpos_apply]
    unfold pos alike self
    rw [EReal.coe_sub]
    split_ifs <;> simp
  · rw [wneg_apply]
    unfold neg alike
    split_ifs <;> simp

omit hs in
/-- The reference's result, whose memory holds the same rows and labels, is the kernel's loss everywhere. -/
theorem res_loss (m : (ℓ : Loc Cert.ReferenceIdeal.nD Cert.ReferenceIdeal.τ Cert.ReferenceIdeal.sig) → Buf (Elt Ideal) ℓ) (c : Dev Cert.ReferenceIdeal.nD)
    (A : FVec Ideal S4096x128 .f32) (B : IVec S4096 32)
    (hA : m ((c.tc : Thread Cert.ReferenceIdeal.nD Cert.ReferenceIdeal.τ).loc Cert.ReferenceIdeal.main_arg0) = A)
    (hB : m ((c.tc : Thread Cert.ReferenceIdeal.nD Cert.ReferenceIdeal.τ).loc Cert.ReferenceIdeal.main_arg1) = B) :
    Cert.ReferenceIdeal.Value.res_main_v71 m c = fun _ => lanes (fun i k => A (ix2 i k)) (fun i => B (ix1 i)) (ix2 0 0) := by
  subst hA hB
  rw [res_eq]
  exact funext fun j => (congrArg (final _ _ _) (Subsingleton.elim j ix0)).trans (loss_eq _ _).symm

end Cert.Hist

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Equation
public import Idealize.ShloMosaic.Adequacy
public import Idealize.ShloMosaic.Init

@[expose] public section

noncomputable section

namespace Cert.Proof

open Idealize.ShloMosaic Idealize.SL.Sem Cert.Kernel

/-- The kernel's idealized result is the reference's: one loss for the same rows and labels. -/
theorem value : Cert.algebraic_KernelIdeal_ReferenceIdeal (hKernelIdeal := Cert.KernelIdeal.Gen.facts) (hReferenceIdeal := Cert.ReferenceIdeal.Gen.facts) := by
  intro m g m' g' _ hagree
  refine ⟨fun c _ => Cert.KernelIdeal.Hist.lanes (Cert.KernelIdeal.Hist.Xin m c) (Cert.KernelIdeal.Hist.Lin m c) (ix2 0 0),
    Cert.KernelIdeal.Hist.value_run m g, ?_⟩
  refine (θ_run _ _ _).mono (fun _ h c => ⟨(h c).1.trans ?_, (h c).2⟩) (Cert.ReferenceIdeal.Value.run m' g')
  exact Cert.Hist.res_loss m' c _ _ (hagree c).1 (hagree c).2

/-- Every claim of this certificate. -/
theorem claim : Cert.Claim :=
  ⟨Cert.Kernel.Gen.facts, Cert.KernelIdeal.Gen.facts, Cert.ReferenceIdeal.Gen.facts,
    fun m ρ _ => Cert.Kernel.Gen.frame m ρ, fun m ρ _ => Cert.KernelIdeal.Gen.frame m ρ, Cert.KernelIdeal.Hist.ref_frame, trivial, value⟩

end Cert.Proof

end
